-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered [hPre_ordered : Cert.Pre_ordered.Facts] (m : (ℓ : Loc Cert.KernelIdeal.nD Cert.KernelIdeal.τ Cert.KernelIdeal.sig) → Buf (Elt Ideal) ℓ) : Prop :=
  ∀ c : Dev Cert.KernelIdeal.nD,
    (Cert.Pre_ordered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered [hPre_ordered : Cert.Pre_ordered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordered [hKernelIdeal : Cert.KernelIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordered [hReferenceIdeal : Cert.ReferenceIdeal.Facts] [hPre_ordered : Cert.Pre_ordered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S48x1440x2x128 Cert.KernelIdeal.S48x1440x1x128
  ∧ IdealRules.bf16_pair.BufferStatement Cert.KernelIdeal.S1x1440x2x128 Cert.KernelIdeal.S1x1440x1x128
  ∧ IdealRules.bf16_pair.Statement Cert.KernelIdeal.S16x128 Cert.KernelIdeal.S8x128
  ∧ IdealRules.bf16_pair.SelectZeroStatement Cert.KernelIdeal.S8x128
  ∧ IdealRules.bf16_pair.Statement Cert.KernelIdeal.S1x8x2x128 Cert.KernelIdeal.S1x8x1x128
  ∧ IdealRules.bf16_pair.Statement Cert.KernelIdeal.S1x256x2x128 Cert.KernelIdeal.S1x256x1x128
  ∧ IdealRules.bf16_pair.Statement Cert.KernelIdeal.S512x128 Cert.KernelIdeal.S256x128
  ∧ IdealRules.bf16_pair.Statement Cert.KernelIdeal.S1x160x2x128 Cert.KernelIdeal.S1x160x1x128
  ∧ IdealRules.bf16_pair.Statement Cert.KernelIdeal.S320x128 Cert.KernelIdeal.S160x128

def algebraic_KernelIdeal_ReferenceIdeal_pre_ordered [hKernelIdeal : Cert.KernelIdeal.Facts] [hReferenceIdeal : Cert.ReferenceIdeal.Facts] [hPre_ordered : Cert.Pre_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ordered : Cert.Pre_ordered.Facts),
    quiescent_Kernel (hKernel := hKernel)
    ∧ quiescent_KernelIdeal (hKernelIdeal := hKernelIdeal)
    ∧ quiescent_KernelIdeal_pre_ordered (hKernelIdeal := hKernelIdeal) (hPre_ordered := hPre_ordered)
    ∧ quiescent_ReferenceIdeal (hReferenceIdeal := hReferenceIdeal)
    ∧ quiescent_ReferenceIdeal_pre_ordered (hReferenceIdeal := hReferenceIdeal) (hPre_ordered := hPre_ordered)
    ∧ preserves_Kernel_KernelIdeal
    ∧ algebraic_KernelIdeal_ReferenceIdeal_pre_ordered (hKernelIdeal := hKernelIdeal) (hReferenceIdeal := hReferenceIdeal) (hPre_ordered := hPre_ordered)
-- ==== Pre_ordered.lean ====
abbrev S24x512x6144 : Shape := ⟨3, ![24, 512, 6144]⟩
abbrev S24x512x48 : Shape := ⟨3, ![24, 512, 48]⟩
abbrev S6144x1440 : Shape := ⟨2, ![6144, 1440]⟩
abbrev S6144x90 : Shape := ⟨2, ![6144, 90]⟩
abbrev S6144 : Shape := ⟨1, ![6144]⟩
abbrev S6144x90x1 : Shape := ⟨3, ![6144, 90, 1]⟩
abbrev S8 : Shape := ⟨1, ![8]⟩
abbrev S_ : Shape := ⟨0, ![]⟩
abbrev S1x1x8 : Shape := ⟨3, ![1, 1, 8]⟩
abbrev S6144x90x8 : Shape := ⟨3, ![6144, 90, 8]⟩

class Facts : Prop where
  bcast_S6144x90_S6144x90x1_0_1 : S6144x90.BroadcastsInDim S6144x90x1 (![0, 1] : Fin 2 → Fin S6144x90x1.rank)
  bcast_S_S8 : S_.BroadcastsInDim S8 (![] : Fin 0 → Fin S8.rank)
  bcast_S8_S1x1x8_2 : S8.BroadcastsInDim S1x1x8 (![2] : Fin 1 → Fin S1x1x8.rank)
  bcast_S6144x90x1_S6144x90x8_0_1_2 : S6144x90x1.BroadcastsInDim S6144x90x8 (![0, 1, 2] : Fin 3 → Fin S6144x90x8.rank)
  bcast_S1x1x8_S6144x90x8_0_1_2 : S1x1x8.BroadcastsInDim S6144x90x8 (![0, 1, 2] : Fin 3 → Fin S6144x90x8.rank)
  bcast_S_S6144x90x8 : S_.BroadcastsInDim S6144x90x8 (![] : Fin 0 → Fin S6144x90x8.rank)

variable [Facts]

def fn {F : FTy → Type} [FloatOps F] (main_arg0 : FVec F S24x512x6144 .fp8e5m2) (main_arg1 : FVec F S24x512x48 .f32) (main_arg2 : FVec F S6144x1440 .fp8e4m3) (main_arg3 : IVec S6144x90 32) (main_arg4 : FVec F S6144 .f32) : IVec S6144x90x8 1 :=
  let main_v0 : IVec S6144x90x1 32 := broadcastInDim S6144x90x1 ![0, 1] bcast_S6144x90_S6144x90x1_0_1 main_arg3
  let main_v1 : IVec S8 32 := iotaInDim S8 32 0
  let main_c : IVec S_ 32 := constantI S_ 32 4#32
  let main_v2 : IVec S8 32 := broadcastInDim S8 ![] bcast_S_S8 main_c
  let main_v3 : IVec S8 32 := muli main_v2 main_v1
  let main_v4 : IVec S1x1x8 32 := broadcastInDim S1x1x8 ![2] bcast_S8_S1x1x8_2 main_v3
  let main_v5 : IVec S6144x90x8 32 := broadcastInDim S6144x90x8 ![0, 1, 2] bcast_S6144x90x1_S6144x90x8_0_1_2 main_v0
  let main_v6 : IVec S6144x90x8 32 := broadcastInDim S6144x90x8 ![0, 1, 2] bcast_S1x1x8_S6144x90x8_0_1_2 main_v4
  let main_v7 : IVec S6144x90x8 32 := Host.shrsi main_v5 main_v6
  let main_c_0 : IVec S_ 32 := constantI S_ 32 3#32
  let main_v8 : IVec S6144x90x8 32 := broadcastInDim S6144x90x8 ![] bcast_S_S6144x90x8 main_c_0
  let main_v9 : IVec S6144x90x8 32 := andi main_v7 main_v8
  let main_c_1 : IVec S_ 32 := constantI S_ 32 2#32
  let main_v10 : IVec S6144x90x8 32 := broadcastInDim S6144x90x8 ![] bcast_S_S6144x90x8 main_c_1
  let main_v11 : IVec S6144x90x8 32 := Host.shrsi main_v7 main_v10
  let main_c_2 : IVec S_ 32 := constantI S_ 32 3#32
  let main_v12 : IVec S6144x90x8 32 := broadcastInDim S6144x90x8 ![] bcast_S_S6144x90x8 main_c_2
  let main_v13 : IVec S6144x90x8 32 := andi main_v11 main_v12
  let main_v14 : IVec S6144x90x8 1 := cmpi .slt main_v9 main_v13
  main_v14
-- ==== Kernel.lean ====
abbrev S24x512x6144 : Shape := ⟨3, ![24, 512, 6144]⟩
abbrev S24x512x48 : Shape := ⟨3, ![24, 512, 48]⟩
abbrev S6144x1440 : Shape := ⟨2, ![6144, 1440]⟩
abbrev S6144x90 : Shape := ⟨2, ![6144, 90]⟩
abbrev S6144 : Shape := ⟨1, ![6144]⟩
abbrev S1x6144 : Shape := ⟨2, ![1, 6144]⟩
abbrev S48x1440x128 : Shape := ⟨3, ![48, 1440, 128]⟩
abbrev S128x1440 : Shape := ⟨2, ![128, 1440]⟩
abbrev S128x90 : Shape := ⟨2, ![128, 90]⟩
abbrev S1x128 : Shape := ⟨2, ![1, 128]⟩
abbrev S1x1440x128 : Shape := ⟨3, ![1, 1440, 128]⟩
abbrev S90x128 : Shape := ⟨2, ![90, 128]⟩
abbrev S1440x128 : Shape := ⟨2, ![1440, 128]⟩
abbrev S8x128 : Shape := ⟨2, ![8, 128]⟩
abbrev S16x128 : Shape := ⟨2, ![16, 128]⟩
abbrev S1x8x128 : Shape := ⟨3, ![1, 8, 128]⟩
abbrev S24x512x2880 : Shape := ⟨3, ![24, 512, 2880]⟩
abbrev S1x512x6144 : Shape := ⟨3, ![1, 512, 6144]⟩
abbrev S1x512x48 : Shape := ⟨3, ![1, 512, 48]⟩
abbrev S1x512x2880 : Shape := ⟨3, ![1, 512, 2880]⟩
abbrev S512x6144 : Shape := ⟨2, ![512, 6144]⟩
abbrev S512x48 : Shape := ⟨2, ![512, 48]⟩
abbrev S1x512x128 : Shape := ⟨3, ![1, 512, 128]⟩
abbrev S512x128 : Shape := ⟨2, ![512, 128]⟩
abbrev S512x1 : Shape := ⟨2, ![512, 1]⟩
abbrev S1x256x128 : Shape := ⟨3, ![1, 256, 128]⟩
abbrev S256x128 : Shape := ⟨2, ![256, 128]⟩
abbrev S512x512 : Shape := ⟨2, ![512, 512]⟩
abbrev S1x512x512 : Shape := ⟨3, ![1, 512, 512]⟩
abbrev S1x160x128 : Shape := ⟨3, ![1, 160, 128]⟩
abbrev S160x128 : Shape := ⟨2, ![160, 128]⟩
abbrev S320x128 : Shape := ⟨2, ![320, 128]⟩
abbrev S320x6144 : Shape := ⟨2, ![320, 6144]⟩
abbrev S320x512 : Shape := ⟨2, ![320, 512]⟩
abbrev S512x320 : Shape := ⟨2, ![512, 320]⟩
abbrev S1x512x320 : Shape := ⟨3, ![1, 512, 320]⟩

abbrev nBuf : Space → Nat
  | .hbm => 8
  | .vmem => 18
  | .smem => 0
  | _ => 0

abbrev bufTy : (tb : Table) → Fin (tcTables nBuf tb) → BufTy
  | .hbm, ⟨0, _⟩ => ⟨S24x512x6144, .fp8e5m2⟩
  | .hbm, ⟨1, _⟩ => ⟨S24x512x48, .f32⟩
  | .hbm, ⟨2, _⟩ => ⟨S6144x1440, .fp8e4m3⟩
  | .hbm, ⟨3, _⟩ => ⟨S6144x90, .i32⟩
  | .hbm, ⟨4, _⟩ => ⟨S6144, .f32⟩
  | .hbm, ⟨5, _⟩ => ⟨S1x6144, .f32⟩
  | .hbm, ⟨6, _⟩ => ⟨S48x1440x128, .i32⟩
  | .hbm, ⟨7, _⟩ => ⟨S24x512x2880, .bf16⟩
  | .local _ .vmem, ⟨0, _⟩ => ⟨S128x1440, .fp8e4m3⟩
  | .local _ .vmem, ⟨1, _⟩ => ⟨S128x1440, .fp8e4m3⟩
  | .local _ .vmem, ⟨2, _⟩ => ⟨S128x90, .i32⟩
  | .local _ .vmem, ⟨3, _⟩ => ⟨S128x90, .i32⟩
  | .local _ .vmem, ⟨4, _⟩ => ⟨S1x128, .f32⟩
  | .local _ .vmem, ⟨5, _⟩ => ⟨S1x128, .f32⟩
  | .local _ .vmem, ⟨6, _⟩ => ⟨S1x1440x128, .i32⟩
  | .local _ .vmem, ⟨7, _⟩ => ⟨S1x1440x128, .i32⟩
  | .local _ .vmem, ⟨8, _⟩ => ⟨S90x128, .i32⟩
  | .local _ .vmem, ⟨9, _⟩ => ⟨S1440x128, .bf16⟩
  | .local _ .vmem, ⟨10, _⟩ => ⟨S1x512x6144, .fp8e5m2⟩
  | .local _ .vmem, ⟨11, _⟩ => ⟨S1x512x6144, .fp8e5m2⟩
  | .local _ .vmem, ⟨12, _⟩ => ⟨S1x512x48, .f32⟩
  | .local _ .vmem, ⟨13, _⟩ => ⟨S1x512x48, .f32⟩
  | .local _ .vmem, ⟨14, _⟩ => ⟨S48x1440x128, .i32⟩
  | .local _ .vmem, ⟨15, _⟩ => ⟨S1x512x2880, .bf16⟩
  | .local _ .vmem, ⟨16, _⟩ => ⟨S1x512x2880, .bf16⟩
  | .local _ .vmem, ⟨17, _⟩ => ⟨S512x6144, .bf16⟩
  | _, _ => ⟨S24x512x6144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [BitOps F]

abbrev grid0 : Pipeline.Grid := ⟨1, ![48], ![false]⟩

@[reducible] def k0_t1_loop : Scf.Loop 32 :=
  let c0_i32_9 : BitVec 32 := 0#32
  let c90_i32 : BitVec 32 := 90#32
  let v19 : BitVec 32 := Scalar.addi c0_i32_9 c90_i32
  let c1_i32 : BitVec 32 := 1#32
  ⟨c0_i32_9, v19, c1_i32⟩
def k0_off1 (k0_t1 : Fin k0_t1_loop.trips) : Fin 2 → Nat :=
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v22 : Index := Scalar.indexCast v21
  let c0_13 : Index := 0#32
  ![v22.toNat, 0]
def k0_off2 (k0_t1 : Fin k0_t1_loop.trips) : Fin 2 → Nat :=
  let c16_i32 : BitVec 32 := 16#32
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v33 : BitVec 32 := Scalar.muli c16_i32 v21
  let v34 : Index := Scalar.indexCast v33
  let c0_15 : Index := 0#32
  ![v34.toNat, 0]
def k0_off3 (k0_t1 : Fin k0_t1_loop.trips) : Fin 3 → Nat :=
  let c0_27 : Index := 0#32
  let c16_i32_26 : BitVec 32 := 16#32
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v71 : BitVec 32 := Scalar.muli c16_i32_26 v21
  let v72 : Index := Scalar.indexCast v71
  let c0_28 : Index := 0#32
  ![0, v72.toNat, 0]
def k0_off4 (k0_t1 : Fin k0_t1_loop.trips) : Fin 3 → Nat :=
  let c0_31 : Index := 0#32
  let c16_i32_29 : BitVec 32 := 16#32
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v76 : BitVec 32 := Scalar.muli c16_i32_29 v21
  let c1_i32_30 : BitVec 32 := 1#32
  let v77 : BitVec 32 := Scalar.addi v76 c1_i32_30
  let v78 : Index := Scalar.indexCast v77
  let c0_32 : Index := 0#32
  ![0, v78.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1440 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x90 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1440x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![24], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x6144 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48x1440x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512x2880 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
abbrev S24x512x6144 : Shape := ⟨3, ![24, 512, 6144]⟩
abbrev S24x512x48 : Shape := ⟨3, ![24, 512, 48]⟩
abbrev S6144x1440 : Shape := ⟨2, ![6144, 1440]⟩
abbrev S6144x90 : Shape := ⟨2, ![6144, 90]⟩
abbrev S6144 : Shape := ⟨1, ![6144]⟩
abbrev S1x6144 : Shape := ⟨2, ![1, 6144]⟩
abbrev S48x1440x2x128 : Shape := ⟨4, ![48, 1440, 2, 128]⟩
abbrev S48x1440x1x128 : Shape := ⟨4, ![48, 1440, 1, 128]⟩
abbrev S48x1440x128 : Shape := ⟨3, ![48, 1440, 128]⟩
abbrev S128x1440 : Shape := ⟨2, ![128, 1440]⟩
abbrev S128x90 : Shape := ⟨2, ![128, 90]⟩
abbrev S1x128 : Shape := ⟨2, ![1, 128]⟩
abbrev S1x1440x128 : Shape := ⟨3, ![1, 1440, 128]⟩
abbrev S1x1440x2x128 : Shape := ⟨4, ![1, 1440, 2, 128]⟩
abbrev S1x1440x1x128 : Shape := ⟨4, ![1, 1440, 1, 128]⟩
abbrev S90x128 : Shape := ⟨2, ![90, 128]⟩
abbrev S1440x128 : Shape := ⟨2, ![1440, 128]⟩
abbrev S8x128 : Shape := ⟨2, ![8, 128]⟩
abbrev S16x128 : Shape := ⟨2, ![16, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S24x512x2880 : Shape := ⟨3, ![24, 512, 2880]⟩
abbrev S1x512x6144 : Shape := ⟨3, ![1, 512, 6144]⟩
abbrev S1x512x48 : Shape := ⟨3, ![1, 512, 48]⟩
abbrev S1x512x2880 : Shape := ⟨3, ![1, 512, 2880]⟩
abbrev S512x6144 : Shape := ⟨2, ![512, 6144]⟩
abbrev S512x48 : Shape := ⟨2, ![512, 48]⟩
abbrev S1x512x128 : Shape := ⟨3, ![1, 512, 128]⟩
abbrev S512x128 : Shape := ⟨2, ![512, 128]⟩
abbrev S512x1 : Shape := ⟨2, ![512, 1]⟩
abbrev S1x256x128 : Shape := ⟨3, ![1, 256, 128]⟩
abbrev S1x256x2x128 : Shape := ⟨4, ![1, 256, 2, 128]⟩
abbrev S1x256x1x128 : Shape := ⟨4, ![1, 256, 1, 128]⟩
abbrev S256x128 : Shape := ⟨2, ![256, 128]⟩
abbrev S512x512 : Shape := ⟨2, ![512, 512]⟩
abbrev S1x512x512 : Shape := ⟨3, ![1, 512, 512]⟩
abbrev S1x160x128 : Shape := ⟨3, ![1, 160, 128]⟩
abbrev S1x160x2x128 : Shape := ⟨4, ![1, 160, 2, 128]⟩
abbrev S1x160x1x128 : Shape := ⟨4, ![1, 160, 1, 128]⟩
abbrev S160x128 : Shape := ⟨2, ![160, 128]⟩
abbrev S320x128 : Shape := ⟨2, ![320, 128]⟩
abbrev S320x6144 : Shape := ⟨2, ![320, 6144]⟩
abbrev S320x512 : Shape := ⟨2, ![320, 512]⟩
abbrev S512x320 : Shape := ⟨2, ![512, 320]⟩
abbrev S1x512x320 : Shape := ⟨3, ![1, 512, 320]⟩

abbrev nBuf : Space → Nat
  | .hbm => 8
  | .vmem => 18
  | .smem => 0
  | _ => 0

abbrev bufTy : (tb : Table) → Fin (tcTables nBuf tb) → BufTy
  | .hbm, ⟨0, _⟩ => ⟨S24x512x6144, .fp8e5m2⟩
  | .hbm, ⟨1, _⟩ => ⟨S24x512x48, .f32⟩
  | .hbm, ⟨2, _⟩ => ⟨S6144x1440, .fp8e4m3⟩
  | .hbm, ⟨3, _⟩ => ⟨S6144x90, .i32⟩
  | .hbm, ⟨4, _⟩ => ⟨S6144, .f32⟩
  | .hbm, ⟨5, _⟩ => ⟨S1x6144, .f32⟩
  | .hbm, ⟨6, _⟩ => ⟨S48x1440x2x128, .bf16⟩
  | .hbm, ⟨7, _⟩ => ⟨S24x512x2880, .bf16⟩
  | .local _ .vmem, ⟨0, _⟩ => ⟨S128x1440, .fp8e4m3⟩
  | .local _ .vmem, ⟨1, _⟩ => ⟨S128x1440, .fp8e4m3⟩
  | .local _ .vmem, ⟨2, _⟩ => ⟨S128x90, .i32⟩
  | .local _ .vmem, ⟨3, _⟩ => ⟨S128x90, .i32⟩
  | .local _ .vmem, ⟨4, _⟩ => ⟨S1x128, .f32⟩
  | .local _ .vmem, ⟨5, _⟩ => ⟨S1x128, .f32⟩
  | .local _ .vmem, ⟨6, _⟩ => ⟨S1x1440x2x128, .bf16⟩
  | .local _ .vmem, ⟨7, _⟩ => ⟨S1x1440x2x128, .bf16⟩
  | .local _ .vmem, ⟨8, _⟩ => ⟨S90x128, .i32⟩
  | .local _ .vmem, ⟨9, _⟩ => ⟨S1440x128, .bf16⟩
  | .local _ .vmem, ⟨10, _⟩ => ⟨S1x512x6144, .fp8e5m2⟩
  | .local _ .vmem, ⟨11, _⟩ => ⟨S1x512x6144, .fp8e5m2⟩
  | .local _ .vmem, ⟨12, _⟩ => ⟨S1x512x48, .f32⟩
  | .local _ .vmem, ⟨13, _⟩ => ⟨S1x512x48, .f32⟩
  | .local _ .vmem, ⟨14, _⟩ => ⟨S48x1440x2x128, .bf16⟩
  | .local _ .vmem, ⟨15, _⟩ => ⟨S1x512x2880, .bf16⟩
  | .local _ .vmem, ⟨16, _⟩ => ⟨S1x512x2880, .bf16⟩
  | .local _ .vmem, ⟨17, _⟩ => ⟨S512x6144, .bf16⟩
  | _, _ => ⟨S24x512x6144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_9 : BitVec 32 := 0#32
  let c90_i32 : BitVec 32 := 90#32
  let v19 : BitVec 32 := Scalar.addi c0_i32_9 c90_i32
  let c1_i32 : BitVec 32 := 1#32
  ⟨c0_i32_9, v19, c1_i32⟩
def k0_off1 (k0_t1 : Fin k0_t1_loop.trips) : Fin 2 → Nat :=
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v22 : Index := Scalar.indexCast v21
  let c0_13 : Index := 0#32
  ![v22.toNat, 0]
def k0_off2 (k0_t1 : Fin k0_t1_loop.trips) : Fin 2 → Nat :=
  let c16_i32 : BitVec 32 := 16#32
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v33 : BitVec 32 := Scalar.muli c16_i32 v21
  let v34 : Index := Scalar.indexCast v33
  let c0_15 : Index := 0#32
  ![v34.toNat, 0]
def k0_off3 (k0_t1 : Fin k0_t1_loop.trips) : Fin 4 → Nat :=
  let c0_27 : Index := 0#32
  let c16_i32_26 : BitVec 32 := 16#32
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v71 : BitVec 32 := Scalar.muli c16_i32_26 v21
  let v72 : Index := Scalar.indexCast v71
  let c0_28 : Index := 0#32
  ![0, v72.toNat, 0, 0]
def k0_off4 (k0_t1 : Fin k0_t1_loop.trips) : Fin 4 → Nat :=
  let c0_31 : Index := 0#32
  let c16_i32_29 : BitVec 32 := 16#32
  let c0_i32_12 : BitVec 32 := 0#32
  let c0_i32_9 : BitVec 32 := 0#32
  let c1_i32 : BitVec 32 := 1#32
  let arg7 : BitVec 32 := Scf.iv c0_i32_9 c1_i32 k0_t1
  let c1_i32_11 : BitVec 32 := 1#32
  let v20 : BitVec 32 := Scalar.muli arg7 c1_i32_11
  let v21 : BitVec 32 := Scalar.addi c0_i32_12 v20
  let v76 : BitVec 32 := Scalar.muli c16_i32_29 v21
  let c1_i32_30 : BitVec 32 := 1#32
  let v77 : BitVec 32 := Scalar.addi v76 c1_i32_30
  let v78 : Index := Scalar.indexCast v77
  let c0_32 : Index := 0#32
  ![0, v78.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

abbrev stage0_0 : Fin 2 → Memref sig .tc .vmem S128x1440 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x90 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1440x2x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![24], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, 0, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x6144 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S48x1440x2x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512x2880 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S24x512x6144 : Shape := ⟨3, ![24, 512, 6144]⟩
abbrev S24x512x48 : Shape := ⟨3, ![24, 512, 48]⟩
abbrev S6144x1440 : Shape := ⟨2, ![6144, 1440]⟩
abbrev S6144x90 : Shape := ⟨2, ![6144, 90]⟩
abbrev S6144 : Shape := ⟨1, ![6144]⟩
abbrev S16 : Shape := ⟨1, ![16]⟩
abbrev S_ : Shape := ⟨0, ![]⟩
abbrev S6144x90x1 : Shape := ⟨3, ![6144, 90, 1]⟩
abbrev S1x1x16 : Shape := ⟨3, ![1, 1, 16]⟩
abbrev S6144x90x16 : Shape := ⟨3, ![6144, 90, 16]⟩
abbrev S6144x720x2 : Shape := ⟨3, ![6144, 720, 2]⟩
abbrev S4 : Shape := ⟨1, ![4]⟩
abbrev S6144x720x2x1 : Shape := ⟨4, ![6144, 720, 2, 1]⟩
abbrev S1x1x1x4 : Shape := ⟨4, ![1, 1, 1, 4]⟩
abbrev S6144x720x2x4 : Shape := ⟨4, ![6144, 720, 2, 4]⟩
abbrev S6144x720x4 : Shape := ⟨3, ![6144, 720, 4]⟩
abbrev S6144x2880 : Shape := ⟨2, ![6144, 2880]⟩
abbrev S6144x1 : Shape := ⟨2, ![6144, 1]⟩
abbrev S24x512x48x128 : Shape := ⟨4, ![24, 512, 48, 128]⟩
abbrev S24x512x48x1 : Shape := ⟨4, ![24, 512, 48, 1]⟩
abbrev S24x512x2880 : Shape := ⟨3, ![24, 512, 2880]⟩

abbrev nBuf : Space → Nat
  | .hbm => 49
  | .vmem => 4
  | .smem => 0
  | _ => 0

abbrev bufTy : (tb : Table) → Fin (tcTables nBuf tb) → BufTy
  | .hbm, ⟨0, _⟩ => ⟨S24x512x6144, .fp8e5m2⟩
  | .hbm, ⟨1, _⟩ => ⟨S24x512x48, .f32⟩
  | .hbm, ⟨2, _⟩ => ⟨S6144x1440, .fp8e4m3⟩
  | .hbm, ⟨3, _⟩ => ⟨S6144x90, .i32⟩
  | .hbm, ⟨4, _⟩ => ⟨S6144, .f32⟩
  | .hbm, ⟨5, _⟩ => ⟨S24x512x6144, .bf16⟩
  | .hbm, ⟨6, _⟩ => ⟨S6144x1440, .bf16⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S6144x90x1, .i32⟩
  | .hbm, ⟨12, _⟩ => ⟨S1x1x16, .i32⟩
  | .hbm, ⟨13, _⟩ => ⟨S6144x90x16, .i32⟩
  | .hbm, ⟨14, _⟩ => ⟨S6144x90x16, .i32⟩
  | .hbm, ⟨15, _⟩ => ⟨S6144x90x16, .i32⟩
  | .hbm, ⟨16, _⟩ => ⟨S_, .i32⟩
  | .hbm, ⟨17, _⟩ => ⟨S6144x90x16, .i32⟩
  | .hbm, ⟨18, _⟩ => ⟨S6144x90x16, .i32⟩
  | .hbm, ⟨19, _⟩ => ⟨S6144x720x2, .i32⟩
  | .hbm, ⟨20, _⟩ => ⟨S6144x720x2, .bf16⟩
  | .hbm, ⟨21, _⟩ => ⟨S4, .i32⟩
  | .hbm, ⟨22, _⟩ => ⟨S6144x720x2x1, .i32⟩
  | .hbm, ⟨23, _⟩ => ⟨S1x1x1x4, .i32⟩
  | .hbm, ⟨24, _⟩ => ⟨S6144x720x2x4, .i32⟩
  | .hbm, ⟨25, _⟩ => ⟨S6144x720x2x4, .i32⟩
  | .hbm, ⟨26, _⟩ => ⟨S6144x720x2x4, .i1⟩
  | .hbm, ⟨27, _⟩ => ⟨S6144x720x2x1, .bf16⟩
  | .hbm, ⟨28, _⟩ => ⟨S_, .bf16⟩
  | .hbm, ⟨29, _⟩ => ⟨S6144x720x2x4, .bf16⟩
  | .hbm, ⟨30, _⟩ => ⟨S6144x720x2x4, .bf16⟩
  | .hbm, ⟨31, _⟩ => ⟨S6144x720x2x4, .bf16⟩
  | .hbm, ⟨32, _⟩ => ⟨S6144x720x2x4, .f32⟩
  | .hbm, ⟨33, _⟩ => ⟨S_, .f32⟩
  | .hbm, ⟨34, _⟩ => ⟨S6144x720x4, .f32⟩
  | .hbm, ⟨35, _⟩ => ⟨S6144x720x4, .bf16⟩
  | .hbm, ⟨36, _⟩ => ⟨S6144x2880, .bf16⟩
  | .hbm, ⟨37, _⟩ => ⟨S6144, .bf16⟩
  | .hbm, ⟨38, _⟩ => ⟨S6144x1, .bf16⟩
  | .hbm, ⟨39, _⟩ => ⟨S6144x2880, .bf16⟩
  | .hbm, ⟨40, _⟩ => ⟨S6144x2880, .bf16⟩
  | .hbm, ⟨41, _⟩ => ⟨S24x512x48x128, .bf16⟩
  | .hbm, ⟨42, _⟩ => ⟨S24x512x48, .bf16⟩
  | .hbm, ⟨43, _⟩ => ⟨S24x512x48x1, .bf16⟩
  | .hbm, ⟨44, _⟩ => ⟨S24x512x48x128, .bf16⟩
  | .hbm, ⟨45, _⟩ => ⟨S24x512x48x128, .bf16⟩
  | .hbm, ⟨46, _⟩ => ⟨S24x512x6144, .bf16⟩
  | .hbm, ⟨47, _⟩ => ⟨S24x512x2880, .f32⟩
  | .hbm, ⟨48, _⟩ => ⟨S24x512x2880, .bf16⟩
  | .local _ .vmem, ⟨0, _⟩ => ⟨S24x512x6144, .fp8e5m2⟩
  | .local _ .vmem, ⟨1, _⟩ => ⟨S6144x1440, .fp8e4m3⟩
  | .local _ .vmem, ⟨2, _⟩ => ⟨S24x512x6144, .bf16⟩
  | .local _ .vmem, ⟨3, _⟩ => ⟨S6144x1440, .bf16⟩
  | _, _ => ⟨S24x512x6144, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x512x6144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1440 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x512x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1440 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelLoop.lean ====
/- The counted loop of the decode region of `Kernel`: its invariant, and the pieces its trips write. -/
module

public import proofs.«01_k».proof.Proof.Gen.Kernel.Loops

@[expose] public section

set_option maxRecDepth 16384
set_option maxHeartbeats 4000000

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the frame kit. -/
abbrev LM (F : FTy → Type) [BitOps F] := MT nD τ sig Unit (Elt F) ℕ (UR sig nD τ) ℕ

/-! ### `k0_t1_loop`: the generated invariant (classifier: affine) -/

/-- One trip's resources: what the region reads (arg5, arg6) at its contents, what it writes (arg4)
   at any. -/
abbrev Trip_k0_t1 (c : Dev nD) (arg5 : Memref sig .tc .vmem S90x128 .i32) (arg6 : Memref sig .tc .vmem S1440x128 .bf16) (arg4 : Memref sig .tc .vmem S1x1440x128 .i32) (X_arg5 : BufTy.Contents (Elt F) arg5.view.ty) (X_arg6 : BufTy.Contents (Elt F) arg6.view.ty) (f_arg4 : BufTy.Contents (Elt F) arg4.view.ty) : sProp (LM F) :=
  iprop((arg5.view.loc (c : Thread nD τ) ↦[arg5.view.set]{fullShare} X_arg5) ∗ (arg6.view.loc (c : Thread nD τ) ↦[arg6.view.set]{fullShare} X_arg6) ∗ (arg4.view.loc (c : Thread nD τ) ↦[arg4.view.set]{fullShare} f_arg4))

/-- ONE TRIP of `k0_t1_loop` at a symbolic `k`, run by `sl_exec` (its rectangles' offsets closed
   forms of `k`, their geometry linear arithmetic): the pieces it writes into arg4 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) :
    { L_arg4 : List (View.Piece (Elt F) S1x1440x128 .i32) // ∀ (E : Set ℕ) (f_arg4 : BufTy.Contents (Elt F) arg4.view.ty),
      Trip_k0_t1 (F := F) c arg5 arg6 arg4 X_arg5 X_arg6 f_arg4
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => Trip_k0_t1 (F := F) c arg5 arg6 arg4 X_arg5 X_arg6 (arg4.view.writes (Elt F) f_arg4 L_arg4)) } := by
  have hk : k.val < 90 := Nat.lt_of_lt_of_le k.isLt k0_t1_abs.2.1
  refine ⟨?_, fun E f_arg4 => ?run⟩
  case run =>
    unfold k0_t1_body
    iintro ⟨HR_arg5, HR_arg6, HW_arg4⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) : List (View.Piece (Elt F) S1x1440x128 .i32) :=
  (trip_k0_t1 (F := F) 𝒱 c bd i arg1 harg1 arg2 harg2 arg3 harg3 arg4 harg4 arg5 harg5 arg6 harg6 X_arg5 X_arg6 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : ℕ) (prev : List (View.Piece (Elt F) S1x1440x128 .i32)) : List (View.Piece (Elt F) S1x1440x128 .i32) :=
  if h : k < k0_t1_loop.trips then
    (tripL_k0_t1 (F := F) 𝒱 c bd i arg1 harg1 arg2 harg2 arg3 harg3 arg4 harg4 arg5 harg5 arg6 harg6 X_arg5 X_arg6 ⟨k, h⟩) ++ prev
  else prev

/-- The pieces of the trips before `k` (last first), per written memref. -/
def pb_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) : ℕ → List (View.Piece (Elt F) S1x1440x128 .i32)
  | 0 => []
  | k + 1 => pb_k0_t1Step 𝒱 c bd i arg1 harg1 arg2 harg2 arg3 harg3 arg4 harg4 arg5 harg5 arg6 harg6 X_arg5 X_arg6 k (pb_k0_t1 𝒱 c bd i arg1 harg1 arg2 harg2 arg3 harg3 arg4 harg4 arg5 harg5 arg6 harg6 X_arg5 X_arg6 k)

theorem pb_k0_t1_succ (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) :
    pb_k0_t1 (F := F) 𝒱 c bd i arg1 harg1 arg2 harg2 arg3 harg3 arg4 harg4 arg5 harg5 arg6 harg6 X_arg5 X_arg6 (k.val + 1)
      = (tripL_k0_t1 (F := F) 𝒱 c bd i arg1 harg1 arg2 harg2 arg3 harg3 arg4 harg4 arg5 harg5 arg6 harg6 X_arg5 X_arg6 k) ++ (pb_k0_t1 (F := F) 𝒱 c bd i arg1 harg1 arg2 harg2 arg3 harg3 arg4 harg4 arg5 harg5 arg6 harg6 X_arg5 X_arg6 k.val) := by
  rw [pb_k0_t1.eq_2]; unfold pb_k0_t1Step; exact dif_pos k.isLt

/-- THE INVARIANT before trip `k`: arg5, arg6 read at `X_·`; arg4 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (G_arg4 : BufTy.Contents (Elt F) arg4.view.ty) (k : ℕ) (_u : PUnit) : sProp (LM F) :=
  iprop((arg5.view.loc (c : Thread nD τ) ↦[arg5.view.set]{fullShare} X_arg5) ∗ (arg6.view.loc (c : Thread nD τ) ↦[arg6.view.set]{fullShare} X_arg6) ∗ (∃ f, (arg4.view.loc (c : Thread nD τ) ↦[arg4.view.set]{fullShare} f) ∗ ⌜f = arg4.view.writes (Elt F) G_arg4 (pb_k0_t1 (F := F) 𝒱 c bd i arg1 harg1 arg2 harg2 arg3 harg3 arg4 harg4 arg5 harg5 arg6 harg6 X_arg5 X_arg6 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (G_arg4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 where
  inv := inv_k0_t1 (F := F) 𝒱 c bd i arg1 harg1 arg2 harg2 arg3 harg3 arg4 harg4 arg5 harg5 arg6 harg6 X_arg5 X_arg6 G_arg4
  step k acc := by
    iintro ⟨HR_arg5, HR_arg6, ⟨%f_arg4, HW_arg4, %h_arg4⟩⟩
    iapply (wp_wand_r Idealize.ShloMosaic.frame (wpE (defs₀ (F := F)) 𝒱 (c : Thread nD τ) bd) E)
    isplitl [HR_arg5 HR_arg6 HW_arg4]
    · iapply ((trip_k0_t1 (F := F) 𝒱 c bd i arg1 harg1 arg2 harg2 arg3 harg3 arg4 harg4 arg5 harg5 arg6 harg6 X_arg5 X_arg6 k).2 E f_arg4)
      isplitl [HR_arg5]; · iexact HR_arg5
      isplitl [HR_arg6]; · iexact HR_arg6
      iexact HW_arg4
    · iintro %_ ⟨HR_arg5, HR_arg6, HW_arg4⟩
      isplitl [HR_arg5]; · iexact HR_arg5
      isplitl [HR_arg6]; · iexact HR_arg6
      rw [pb_k0_t1_succ]
      iexists _; isplitl [HW_arg4]; · iexact HW_arg4
      ipureintro; rw [h_arg4, ← View.writes_append]

/-! ## The pieces of one trip and the cover of the block -/

/-- The rectangle of a trip's first store: eight word rows at stride two from row `16 k`. -/
abbrev rectA (k : Fin k0_t1_loop.trips) : Rect S1x1440x128 :=
  ⟨⟨k0_off3 k, S1x8x128.size, ![1, 2, 1], k0_off3_inb k⟩, spos_1_2_1⟩

/-- The rectangle of a trip's second store: the rows between those of the first. -/
abbrev rectB (k : Fin k0_t1_loop.trips) : Rect S1x1440x128 :=
  ⟨⟨k0_off4 k, S1x8x128.size, ![1, 2, 1], k0_off4_inb k⟩, spos_1_2_1⟩

theorem tripL_rects (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) :
    (tripL_k0_t1 (F := F) 𝒱 c bd i arg1 harg1 arg2 harg2 arg3 harg3 arg4 harg4 arg5 harg5 arg6 harg6 X_arg5 X_arg6 k).map (·.1) = [rectB k, rectA k] := by
  unfold tripL_k0_t1 trip_k0_t1; rfl

theorem mem_pb (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) (p : View.Piece (Elt F) S1x1440x128 .i32)
    (hp : p ∈ tripL_k0_t1 (F := F) 𝒱 c bd i arg1 harg1 arg2 harg2 arg3 harg3 arg4 harg4 arg5 harg5 arg6 harg6 X_arg5 X_arg6 k) :
    ∀ n : ℕ, n ≤ k0_t1_loop.trips → k.val < n → p ∈ pb_k0_t1 (F := F) 𝒱 c bd i arg1 harg1 arg2 harg2 arg3 harg3 arg4 harg4 arg5 harg5 arg6 harg6 X_arg5 X_arg6 n
  | 0, _, h => absurd h (Nat.not_lt_zero _)
  | n + 1, hn, h => by
    rw [pb_k0_t1_succ (F := F) 𝒱 c bd i arg1 harg1 arg2 harg2 arg3 harg3 arg4 harg4 arg5 harg5 arg6 harg6 X_arg5 X_arg6 ⟨n, hn⟩]
    rcases Nat.lt_succ_iff_lt_or_eq.mp h with h' | h'
    · exact List.mem_append_right _ (mem_pb 𝒱 c bd i arg1 harg1 arg2 harg2 arg3 harg3 arg4 harg4 arg5 harg5 arg6 harg6 X_arg5 X_arg6 k p hp n (Nat.le_of_succ_le hn) h')
    · have : k = ⟨n, hn⟩ := Fin.ext h'
      subst this; exact List.mem_append_left _ hp

theorem trips_eq : k0_t1_loop.trips = 90 := by decide +kernel

/-- A word row is in the rectangle of one of the two stores of its trip. -/
theorem row_mem (y : S1x1440x128.Idx) :
    ∃ k : Fin k0_t1_loop.trips, y ∈ (rectA k).set ∨ y ∈ (rectB k).set := by
  have h1 : (y 1).val < 1440 := (y 1).isLt
  refine ⟨⟨(y 1).val / 16, by rw [trips_eq]; omega⟩, ?_⟩
  rcases Nat.mod_two_eq_zero_or_one (y 1).val with h | h
  · left
    refine LoadRect.mem_set _ |>.mpr fun a => ?_
    show ∃ j, j < S1x8x128.size a ∧ (y a).val = k0_off3 _ a + ![1, 2, 1] a * j
    rw [k0_off3_eq]
    match a with
    | ⟨0, h0⟩ => exact ⟨0, Nat.one_pos, by have : (y ⟨0, h0⟩).val < 1 := (y ⟨0, h0⟩).isLt; show _ = 0 + 1 * 0; omega⟩
    | ⟨1, h0⟩ => exact ⟨(y 1).val % 16 / 2, by show _ < 8; omega, by show (y 1).val = 16 * ((y 1).val / 16) + 2 * _; omega⟩
    | ⟨2, h⟩ => exact ⟨(y ⟨2, h⟩).val, (y ⟨2, h⟩).isLt, by show _ = 0 + 1 * _; omega⟩
  · right
    refine LoadRect.mem_set _ |>.mpr fun a => ?_
    show ∃ j, j < S1x8x128.size a ∧ (y a).val = k0_off4 _ a + ![1, 2, 1] a * j
    rw [k0_off4_eq]
    match a with
    | ⟨0, h0⟩ => exact ⟨0, Nat.one_pos, by have : (y ⟨0, h0⟩).val < 1 := (y ⟨0, h0⟩).isLt; show _ = 0 + 1 * 0; omega⟩
    | ⟨1, h0⟩ => exact ⟨(y 1).val % 16 / 2, by show _ < 8; omega, by show (y 1).val = 16 * ((y 1).val / 16) + 1 + 2 * _; omega⟩
    | ⟨2, h⟩ => exact ⟨(y ⟨2, h⟩).val, (y ⟨2, h⟩).isLt, by show _ = 0 + 1 * _; omega⟩

/-- The pieces of all the trips cover the block. -/
theorem cover_pb (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (y : S1x1440x128.Idx) :
    ∃ pc ∈ pb_k0_t1 (F := F) 𝒱 c bd i arg1 harg1 arg2 harg2 arg3 harg3 arg4 harg4 arg5 harg5 arg6 harg6 X_arg5 X_arg6 k0_t1_loop.trips, y ∈ pc.1.set := by
  obtain ⟨k, hk⟩ := row_mem y
  have hr := tripL_rects (F := F) 𝒱 c bd i arg1 harg1 arg2 harg2 arg3 harg3 arg4 harg4 arg5 harg5 arg6 harg6 X_arg5 X_arg6 k
  have : ∃ r ∈ (tripL_k0_t1 (F := F) 𝒱 c bd i arg1 harg1 arg2 harg2 arg3 harg3 arg4 harg4 arg5 harg5 arg6 harg6 X_arg5 X_arg6 k).map (·.1), y ∈ r.set := by
    rw [hr]
    rcases hk with h | h
    · exact ⟨rectA k, by simp, h⟩
    · exact ⟨rectB k, by simp, h⟩
  obtain ⟨r, hmem, hy⟩ := this
  obtain ⟨p, hp, rfl⟩ := List.mem_map.mp hmem
  exact ⟨p, mem_pb 𝒱 c bd i arg1 harg1 arg2 harg2 arg3 harg3 arg4 harg4 arg5 harg5 arg6 harg6 X_arg5 X_arg6 k p hp _ le_rfl k.isLt, hy⟩

end Cert.Kernel.Own

end
-- ==== Proof.KernelDecode.lean ====
/- The decode region of `Kernel`: the run of its body at any point and its proof data, at the buffer contents the region is entered with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.KernelLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S1x1440x128 .i32 := (Memref.whole cc0_stg3_0 : Memref sig .tc .vmem S1x1440x128 .i32).view
/-- Each window's current staging memref at point `t`, spelled as the pipeline passes it (`bodyAt0`), and its wholeness. -/
abbrev ms0_0 (t : Fin cfg0.N) : Memref sig .tc .vmem S128x1440 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x90 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1440x128 .i32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S90x128 .i32 := Memref.whole cc0_scratch0
abbrev scM0_1 : Memref sig .tc .vmem S1440x128 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (LM F))
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole)
    (x0 : Vec F S128x1440 .fp8e4m3) (x1 : Vec F S128x90 .i32) (x2 : Vec F S1x128 .f32) :
    { L3 : List (View.Piece (Elt F) S1x1440x128 .i32) //
      ∀ (E : Set ℕ) (K : PUnit → sProp (LM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d)) -∗ K ⟨⟩))
          ⊢ wp frame (wpE (defs₀ (F := F)) Variants.none c none) E (cc0_decode i arg1 harg1 arg2 harg2 arg3 harg3 arg4 harg4 arg5 harg5 arg6 harg6) K } := by
  refine ⟨?_, fun E K => ?run⟩
  case run =>
    simp only [cc0_decode_eq_skeleton]; unfold cc0_decode_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _, _; isplitr; swap; · iexact HS0
      ipureintro; rfl
    iexists _, _; isplitr; swap; · iexact HS1
    ipureintro; rfl

/-- The run's pieces for output 3 cover its block: they are the loop's. -/
theorem cover0_A_3 (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole)
    (x0 : Vec F S128x1440 .fp8e4m3) (x1 : Vec F S128x90 .i32) (x2 : Vec F S1x128 .f32) (y : S1x1440x128.Idx) :
    ∃ pc ∈ (kernelRun0_A c i arg1 harg1 arg2 harg2 arg3 harg3 arg4 harg4 arg5 harg5 arg6 harg6 x0 x1 x2).1, y ∈ pc.1.set :=
  cover_pb (F := F) Variants.none c none i arg1 harg1 arg2 harg2 arg3 harg3 arg4 harg4 arg5 harg5 arg6 harg6 _ _ y

/-- What the run leaves in output 3's staging buffer: its pieces read back over junk. -/
def out0_A_3 (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x128 .i32) (harg4 : arg4.IsWhole) (arg5 : Memref sig .tc .vmem S90x128 .i32) (harg5 : arg5.IsWhole) (arg6 : Memref sig .tc .vmem S1440x128 .bf16) (harg6 : arg6.IsWhole)
    (x0 : Vec F S128x1440 .fp8e4m3) (x1 : Vec F S128x90 .i32) (x2 : Vec F S1x128 .f32) : Vec F S1x1440x128 .i32 :=
  VO0_3.read (Elt F) (VO0_3.writes (Elt F) VO0_3.junk (kernelRun0_A c i arg1 harg1 arg2 harg2 arg3 harg3 arg4 harg4 arg5 harg5 arg6 harg6 x0 x1 x2).1)

/-! ## What the outputs hold after each point -/

/-- What the outputs' staging buffers hold after the body at point `t`: the run's contents at
    the point's memrefs and input blocks. -/
def outsAt0 (c : Dev nD) (t : Fin cfg0.N) : Vec F S1x1440x128 .i32 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp (LM F) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp (LM F) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_3
  iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 HR2 HR3 HR4 HR5 HR6 HR7 HR8 HR9 Hg]
  · isplitl [HS0 HS1 HR2 HR3 HR4 HR5 HR6 HR7 HR8 HR9]
    · isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      iexact HR9
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Own

end
-- ==== Proof.KernelMatmul.lean ====
/- The matmul region of `Kernel`: the run of its body at any point and its proof data, at the buffer contents the region is entered with. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.KernelLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S1x512x2880 .bf16 := (Memref.whole cc1_stg3_0 : Memref sig .tc .vmem S1x512x2880 .bf16).view
/-- Each window's current staging memref at point `t`, spelled as the pipeline passes it (`bodyAt1`), and its wholeness. -/
abbrev ms1_0 (t : Fin cfg1.N) : Memref sig .tc .vmem S1x512x6144 .fp8e5m2 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x48 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x1440x128 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2880 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S512x6144 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp (LM F))
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 2380000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x128 .i32) (harg3 : arg3.IsWhole) (arg4 : Memref sig .tc .vmem S1x512x2880 .bf16) (harg4 : arg4.IsWhole) (arg5 : Memref sig .tc .vmem S512x6144 .bf16) (harg5 : arg5.IsWhole)
    (x0 : Vec F S1x512x6144 .fp8e5m2) (x1 : Vec F S1x512x48 .f32) (x2 : Vec F S48x1440x128 .i32) :
    Σ' (L3 : List (View.Piece (Elt F) S1x512x2880 .bf16)), { LT0 : List (View.Piece (Elt F) S512x6144 .bf16) //
      ∀ (E : Set ℕ) (K : PUnit → sProp (LM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc1_matmul i arg1 harg1 arg2 harg2 arg3 harg3 arg4 harg4 arg5 harg5) K } := by
  refine ⟨?_, ?_, fun E K => ?run⟩
  case run =>
    simp only [cc1_matmul_eq_skeleton]; unfold cc1_matmul_skel
    simp only [k1_part43_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- The run's pieces for output 3 are of SEVERAL sizes (6 stores of `S1x512x320`, `S1x512x512`): cut into blocks of `![1, 512, 64]` they tile its block (checked by the kernel's evaluation: Lib/Ring.lean `Piece.tiledBy`), so they cover it. -/
theorem cover1_A_3 (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x128 .i32) (harg3 : arg3.IsWhole) (arg4 : Memref sig .tc .vmem S1x512x2880 .bf16) (harg4 : arg4.IsWhole) (arg5 : Memref sig .tc .vmem S512x6144 .bf16) (harg5 : arg5.IsWhole)
    (x0 : Vec F S1x512x6144 .fp8e5m2) (x1 : Vec F S1x512x48 .f32) (x2 : Vec F S48x1440x128 .i32) (y : S1x512x2880.Idx) :
    ∃ pc ∈ (kernelRun1_A c i arg1 harg1 arg2 harg2 arg3 harg3 arg4 harg4 arg5 harg5 x0 x1 x2).1, y ∈ pc.1.set :=
  View.cover_of_tiledBy (kernelRun1_A c i arg1 harg1 arg2 harg2 arg3 harg3 arg4 harg4 arg5 harg5 x0 x1 x2).1 ![1, 512, 64] (by sl_kernel_rfl) y

/-- What the run leaves in output 3's staging buffer: its pieces read back over junk. -/
def out1_A_3 (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x128 .i32) (harg3 : arg3.IsWhole) (arg4 : Memref sig .tc .vmem S1x512x2880 .bf16) (harg4 : arg4.IsWhole) (arg5 : Memref sig .tc .vmem S512x6144 .bf16) (harg5 : arg5.IsWhole)
    (x0 : Vec F S1x512x6144 .fp8e5m2) (x1 : Vec F S1x512x48 .f32) (x2 : Vec F S48x1440x128 .i32) : Vec F S1x512x2880 .bf16 :=
  VO1_3.read (Elt F) (VO1_3.writes (Elt F) VO1_3.junk (kernelRun1_A c i arg1 harg1 arg2 harg2 arg3 harg3 arg4 harg4 arg5 harg5 x0 x1 x2).1)

/-! ## What the outputs hold after each point -/

/-- What the outputs' staging buffers hold after the body at point `t`: the run's contents at
    the point's memrefs and input blocks. -/
def outsAt1 (c : Dev nD) (t : Fin cfg1.N) : Vec F S1x512x2880 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp (LM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp (LM F) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HS0 Hg]
  · isplitl [HR0 HR1 HR2 HR3 HR4 HR5 HR6 HR7 HR8 HR9 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Own

end
-- ==== Proof.KernelRun.lean ====
/- The run of `Kernel`: the two regions and the host line before them, the buffer contents at every boundary, and the frame. -/
module

public import proofs.«01_k».proof.Proof.KernelDecode
public import proofs.«01_k».proof.Proof.KernelMatmul

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (LM F) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp (LM F) := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W3_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (LM F))
            ⊢ BI.own (emb₁ (initOf (Pipeline.cells cfgs cellOf_inj) (Pipeline.launchToks cfgs cellOf_inj))) from .rfl)
        iexact Hu
      iapply (show (BI.emp : sProp (LM F)) ⊢ bigSep Finset.univ (fun _ : Dev nD => (BI.emp : sProp (LM F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨(fun c =>
      ⟨(h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.Kernel.Own

end
-- ==== Proof.KernelIdealLoop.lean ====
/- The counted loop of the decode region of `KernelIdeal`: its invariant, and the pieces its trips write. -/
module

public import proofs.«01_k».proof.Proof.Gen.KernelIdeal.Loops

@[expose] public section

set_option maxRecDepth 16384
set_option maxHeartbeats 4000000

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the frame kit. -/
abbrev LM (F : FTy → Type) [FloatOps F] := MT nD τ sig Unit (Elt F) ℕ (UR sig nD τ) ℕ

/-! ### `k0_t1_loop`: the generated invariant (classifier: affine) -/

/-- One trip's resources: what the region reads (arg5, arg6) at its contents, what it writes (arg4)
   at any. -/
abbrev Trip_k0_t1 (c : Dev nD) (arg5 : Memref sig .tc .vmem S90x128 .i32) (arg6 : Memref sig .tc .vmem S1440x128 .bf16) (arg4 : Memref sig .tc .vmem S1x1440x2x128 .bf16) (X_arg5 : BufTy.Contents (Elt F) arg5.view.ty) (X_arg6 : BufTy.Contents (Elt F) arg6.view.ty) (f_arg4 : BufTy.Contents (Elt F) arg4.view.ty) : sProp (LM F) :=
  iprop((arg5.view.loc (c : Thread nD τ) ↦[arg5.view.set]{fullShare} X_arg5) ∗ (arg6.view.loc (c : Thread nD τ) ↦[arg6.view.set]{fullShare} X_arg6) ∗ (arg4.view.loc (c : Thread nD τ) ↦[arg4.view.set]{fullShare} f_arg4))

/-- ONE TRIP of `k0_t1_loop` at a symbolic `k`, run by `sl_exec` (its rectangles' offsets closed
   forms of `k`, their geometry linear arithmetic): the pieces it writes into arg4 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) :
    { L_arg4 : List (View.Piece (Elt F) S1x1440x2x128 .bf16) // ∀ (E : Set ℕ) (f_arg4 : BufTy.Contents (Elt F) arg4.view.ty),
      Trip_k0_t1 (F := F) c arg5 arg6 arg4 X_arg5 X_arg6 f_arg4
      ⊢ wp frame (wpE (defs₀ (F := F)) 𝒱 (c : Thread nD τ) bd) E (k0_t1_body (F := F) i arg1 harg1 arg2 harg2 arg3 harg3 arg4 harg4 arg5 harg5 arg6 harg6 k PUnit.unit)
          (fun _ => Trip_k0_t1 (F := F) c arg5 arg6 arg4 X_arg5 X_arg6 (arg4.view.writes (Elt F) f_arg4 L_arg4)) } := by
  have hk : k.val < 90 := Nat.lt_of_lt_of_le k.isLt k0_t1_abs.2.1
  refine ⟨?_, fun E f_arg4 => ?run⟩
  case run =>
    unfold k0_t1_body
    iintro ⟨HR_arg5, HR_arg6, HW_arg4⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) : List (View.Piece (Elt F) S1x1440x2x128 .bf16) :=
  (trip_k0_t1 (F := F) 𝒱 c bd i arg1 harg1 arg2 harg2 arg3 harg3 arg4 harg4 arg5 harg5 arg6 harg6 X_arg5 X_arg6 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : ℕ) (prev : List (View.Piece (Elt F) S1x1440x2x128 .bf16)) : List (View.Piece (Elt F) S1x1440x2x128 .bf16) :=
  if h : k < k0_t1_loop.trips then
    (tripL_k0_t1 (F := F) 𝒱 c bd i arg1 harg1 arg2 harg2 arg3 harg3 arg4 harg4 arg5 harg5 arg6 harg6 X_arg5 X_arg6 ⟨k, h⟩) ++ prev
  else prev

/-- The pieces of the trips before `k` (last first), per written memref. -/
def pb_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) : ℕ → List (View.Piece (Elt F) S1x1440x2x128 .bf16)
  | 0 => []
  | k + 1 => pb_k0_t1Step 𝒱 c bd i arg1 harg1 arg2 harg2 arg3 harg3 arg4 harg4 arg5 harg5 arg6 harg6 X_arg5 X_arg6 k (pb_k0_t1 𝒱 c bd i arg1 harg1 arg2 harg2 arg3 harg3 arg4 harg4 arg5 harg5 arg6 harg6 X_arg5 X_arg6 k)

theorem pb_k0_t1_succ (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) :
    pb_k0_t1 (F := F) 𝒱 c bd i arg1 harg1 arg2 harg2 arg3 harg3 arg4 harg4 arg5 harg5 arg6 harg6 X_arg5 X_arg6 (k.val + 1)
      = (tripL_k0_t1 (F := F) 𝒱 c bd i arg1 harg1 arg2 harg2 arg3 harg3 arg4 harg4 arg5 harg5 arg6 harg6 X_arg5 X_arg6 k) ++ (pb_k0_t1 (F := F) 𝒱 c bd i arg1 harg1 arg2 harg2 arg3 harg3 arg4 harg4 arg5 harg5 arg6 harg6 X_arg5 X_arg6 k.val) := by
  rw [pb_k0_t1.eq_2]; unfold pb_k0_t1Step; exact dif_pos k.isLt

/-- THE INVARIANT before trip `k`: arg5, arg6 read at `X_·`; arg4 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (G_arg4 : BufTy.Contents (Elt F) arg4.view.ty) (k : ℕ) (_u : PUnit) : sProp (LM F) :=
  iprop((arg5.view.loc (c : Thread nD τ) ↦[arg5.view.set]{fullShare} X_arg5) ∗ (arg6.view.loc (c : Thread nD τ) ↦[arg6.view.set]{fullShare} X_arg6) ∗ (∃ f, (arg4.view.loc (c : Thread nD τ) ↦[arg4.view.set]{fullShare} f) ∗ ⌜f = arg4.view.writes (Elt F) G_arg4 (pb_k0_t1 (F := F) 𝒱 c bd i arg1 harg1 arg2 harg2 arg3 harg3 arg4 harg4 arg5 harg5 arg6 harg6 X_arg5 X_arg6 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (G_arg4 : BufTy.Contents (Elt F) arg4.view.ty) :
    LoopInvTy_k0_t1 (F := F) Unit ℕ (UR sig nD τ) ℕ 𝒱 c bd E i arg1 harg1 arg2 harg2 arg3 harg3 arg4 harg4 arg5 harg5 arg6 harg6 where
  inv := inv_k0_t1 (F := F) 𝒱 c bd i arg1 harg1 arg2 harg2 arg3 harg3 arg4 harg4 arg5 harg5 arg6 harg6 X_arg5 X_arg6 G_arg4
  step k acc := by
    iintro ⟨HR_arg5, HR_arg6, ⟨%f_arg4, HW_arg4, %h_arg4⟩⟩
    iapply (wp_wand_r Idealize.ShloMosaic.frame (wpE (defs₀ (F := F)) 𝒱 (c : Thread nD τ) bd) E)
    isplitl [HR_arg5 HR_arg6 HW_arg4]
    · iapply ((trip_k0_t1 (F := F) 𝒱 c bd i arg1 harg1 arg2 harg2 arg3 harg3 arg4 harg4 arg5 harg5 arg6 harg6 X_arg5 X_arg6 k).2 E f_arg4)
      isplitl [HR_arg5]; · iexact HR_arg5
      isplitl [HR_arg6]; · iexact HR_arg6
      iexact HW_arg4
    · iintro %_ ⟨HR_arg5, HR_arg6, HW_arg4⟩
      isplitl [HR_arg5]; · iexact HR_arg5
      isplitl [HR_arg6]; · iexact HR_arg6
      rw [pb_k0_t1_succ]
      iexists _; isplitl [HW_arg4]; · iexact HW_arg4
      ipureintro; rw [h_arg4, ← View.writes_append]

/-! ## The pieces of one trip and the cover of the block -/

/-- The rectangle of a trip's first store: eight word rows at stride two from row `16 k`. -/
abbrev rectA (k : Fin k0_t1_loop.trips) : Rect S1x1440x2x128 :=
  ⟨⟨k0_off3 k, S1x8x2x128.size, ![1, 2, 1, 1], k0_off3_inb k⟩, spos_1_2_1_1⟩

/-- The rectangle of a trip's second store: the rows between those of the first. -/
abbrev rectB (k : Fin k0_t1_loop.trips) : Rect S1x1440x2x128 :=
  ⟨⟨k0_off4 k, S1x8x2x128.size, ![1, 2, 1, 1], k0_off4_inb k⟩, spos_1_2_1_1⟩

theorem tripL_rects (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) :
    (tripL_k0_t1 (F := F) 𝒱 c bd i arg1 harg1 arg2 harg2 arg3 harg3 arg4 harg4 arg5 harg5 arg6 harg6 X_arg5 X_arg6 k).map (·.1) = [rectB k, rectA k] := by
  unfold tripL_k0_t1 trip_k0_t1; rfl

theorem mem_pb (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (k : Fin k0_t1_loop.trips) (p : View.Piece (Elt F) S1x1440x2x128 .bf16)
    (hp : p ∈ tripL_k0_t1 (F := F) 𝒱 c bd i arg1 harg1 arg2 harg2 arg3 harg3 arg4 harg4 arg5 harg5 arg6 harg6 X_arg5 X_arg6 k) :
    ∀ n : ℕ, n ≤ k0_t1_loop.trips → k.val < n → p ∈ pb_k0_t1 (F := F) 𝒱 c bd i arg1 harg1 arg2 harg2 arg3 harg3 arg4 harg4 arg5 harg5 arg6 harg6 X_arg5 X_arg6 n
  | 0, _, h => absurd h (Nat.not_lt_zero _)
  | n + 1, hn, h => by
    rw [pb_k0_t1_succ (F := F) 𝒱 c bd i arg1 harg1 arg2 harg2 arg3 harg3 arg4 harg4 arg5 harg5 arg6 harg6 X_arg5 X_arg6 ⟨n, hn⟩]
    rcases Nat.lt_succ_iff_lt_or_eq.mp h with h' | h'
    · exact List.mem_append_right _ (mem_pb 𝒱 c bd i arg1 harg1 arg2 harg2 arg3 harg3 arg4 harg4 arg5 harg5 arg6 harg6 X_arg5 X_arg6 k p hp n (Nat.le_of_succ_le hn) h')
    · have : k = ⟨n, hn⟩ := Fin.ext h'
      subst this; exact List.mem_append_left _ hp

theorem trips_eq : k0_t1_loop.trips = 90 := by decide +kernel

/-- A word row is in the rectangle of one of the two stores of its trip. -/
theorem row_mem (y : S1x1440x2x128.Idx) :
    ∃ k : Fin k0_t1_loop.trips, y ∈ (rectA k).set ∨ y ∈ (rectB k).set := by
  have h1 : (y 1).val < 1440 := (y 1).isLt
  refine ⟨⟨(y 1).val / 16, by rw [trips_eq]; omega⟩, ?_⟩
  rcases Nat.mod_two_eq_zero_or_one (y 1).val with h | h
  · left
    refine LoadRect.mem_set _ |>.mpr fun a => ?_
    show ∃ j, j < S1x8x2x128.size a ∧ (y a).val = k0_off3 _ a + ![1, 2, 1, 1] a * j
    rw [k0_off3_eq]
    match a with
    | ⟨0, h0⟩ => exact ⟨0, Nat.one_pos, by have : (y ⟨0, h0⟩).val < 1 := (y ⟨0, h0⟩).isLt; show _ = 0 + 1 * 0; omega⟩
    | ⟨1, h0⟩ => exact ⟨(y 1).val % 16 / 2, by show _ < 8; omega, by show (y 1).val = 16 * ((y 1).val / 16) + 2 * _; omega⟩
    | ⟨2, h⟩ => exact ⟨(y ⟨2, h⟩).val, (y ⟨2, h⟩).isLt, by show _ = 0 + 1 * _; omega⟩
    | ⟨3, h⟩ => exact ⟨(y ⟨3, h⟩).val, (y ⟨3, h⟩).isLt, by show _ = 0 + 1 * _; omega⟩
  · right
    refine LoadRect.mem_set _ |>.mpr fun a => ?_
    show ∃ j, j < S1x8x2x128.size a ∧ (y a).val = k0_off4 _ a + ![1, 2, 1, 1] a * j
    rw [k0_off4_eq]
    match a with
    | ⟨0, h0⟩ => exact ⟨0, Nat.one_pos, by have : (y ⟨0, h0⟩).val < 1 := (y ⟨0, h0⟩).isLt; show _ = 0 + 1 * 0; omega⟩
    | ⟨1, h0⟩ => exact ⟨(y 1).val % 16 / 2, by show _ < 8; omega, by show (y 1).val = 16 * ((y 1).val / 16) + 1 + 2 * _; omega⟩
    | ⟨2, h⟩ => exact ⟨(y ⟨2, h⟩).val, (y ⟨2, h⟩).isLt, by show _ = 0 + 1 * _; omega⟩
    | ⟨3, h⟩ => exact ⟨(y ⟨3, h⟩).val, (y ⟨3, h⟩).isLt, by show _ = 0 + 1 * _; omega⟩

/-- The pieces of all the trips cover the block. -/
theorem cover_pb (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole) (X_arg5 : BufTy.Contents (Elt F) arg5.view.ty) (X_arg6 : BufTy.Contents (Elt F) arg6.view.ty) (y : S1x1440x2x128.Idx) :
    ∃ pc ∈ pb_k0_t1 (F := F) 𝒱 c bd i arg1 harg1 arg2 harg2 arg3 harg3 arg4 harg4 arg5 harg5 arg6 harg6 X_arg5 X_arg6 k0_t1_loop.trips, y ∈ pc.1.set := by
  obtain ⟨k, hk⟩ := row_mem y
  have hr := tripL_rects (F := F) 𝒱 c bd i arg1 harg1 arg2 harg2 arg3 harg3 arg4 harg4 arg5 harg5 arg6 harg6 X_arg5 X_arg6 k
  have : ∃ r ∈ (tripL_k0_t1 (F := F) 𝒱 c bd i arg1 harg1 arg2 harg2 arg3 harg3 arg4 harg4 arg5 harg5 arg6 harg6 X_arg5 X_arg6 k).map (·.1), y ∈ r.set := by
    rw [hr]
    rcases hk with h | h
    · exact ⟨rectA k, by simp, h⟩
    · exact ⟨rectB k, by simp, h⟩
  obtain ⟨r, hmem, hy⟩ := this
  obtain ⟨p, hp, rfl⟩ := List.mem_map.mp hmem
  exact ⟨p, mem_pb 𝒱 c bd i arg1 harg1 arg2 harg2 arg3 harg3 arg4 harg4 arg5 harg5 arg6 harg6 X_arg5 X_arg6 k p hp _ le_rfl k.isLt, hy⟩

end Cert.KernelIdeal.Own

end
-- ==== Proof.KernelIdealDecode.lean ====
/- The decode region of `KernelIdeal`: the run of its body at any point and its proof data, at the buffer contents the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KernelIdealLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_decode` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S1x1440x2x128 .bf16 := (Memref.whole cc0_stg3_0 : Memref sig .tc .vmem S1x1440x2x128 .bf16).view
/-- Each window's current staging memref at point `t`, spelled as the pipeline passes it (`bodyAt0`), and its wholeness. -/
abbrev ms0_0 (t : Fin cfg0.N) : Memref sig .tc .vmem S128x1440 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x90 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1440x2x128 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S90x128 .i32 := Memref.whole cc0_scratch0
abbrev scM0_1 : Memref sig .tc .vmem S1440x128 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (LM F))
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, scM0_1, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole)
    (x0 : Vec F S128x1440 .fp8e4m3) (x1 : Vec F S128x90 .i32) (x2 : Vec F S1x128 .f32) :
    { L3 : List (View.Piece (Elt F) S1x1440x2x128 .bf16) //
      ∀ (E : Set ℕ) (K : PUnit → sProp (LM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d)) -∗ K ⟨⟩))
          ⊢ wp frame (wpE (defs₀ (F := F)) Variants.none c none) E (cc0_decode i arg1 harg1 arg2 harg2 arg3 harg3 arg4 harg4 arg5 harg5 arg6 harg6) K } := by
  refine ⟨?_, fun E K => ?run⟩
  case run =>
    simp only [cc0_decode_eq_skeleton]; unfold cc0_decode_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _, _; isplitr; swap; · iexact HS0
      ipureintro; rfl
    iexists _, _; isplitr; swap; · iexact HS1
    ipureintro; rfl

/-- The run's pieces for output 3 cover its block: they are the loop's. -/
theorem cover0_A_3 (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole)
    (x0 : Vec F S128x1440 .fp8e4m3) (x1 : Vec F S128x90 .i32) (x2 : Vec F S1x128 .f32) (y : S1x1440x2x128.Idx) :
    ∃ pc ∈ (kernelRun0_A c i arg1 harg1 arg2 harg2 arg3 harg3 arg4 harg4 arg5 harg5 arg6 harg6 x0 x1 x2).1, y ∈ pc.1.set :=
  cover_pb (F := F) Variants.none c none i arg1 harg1 arg2 harg2 arg3 harg3 arg4 harg4 arg5 harg5 arg6 harg6 _ _ y

/-- What the run leaves in output 3's staging buffer: its pieces read back over junk. -/
def out0_A_3 (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole)
    (x0 : Vec F S128x1440 .fp8e4m3) (x1 : Vec F S128x90 .i32) (x2 : Vec F S1x128 .f32) : Vec F S1x1440x2x128 .bf16 :=
  VO0_3.read (Elt F) (VO0_3.writes (Elt F) VO0_3.junk (kernelRun0_A c i arg1 harg1 arg2 harg2 arg3 harg3 arg4 harg4 arg5 harg5 arg6 harg6 x0 x1 x2).1)

/-! ## What the outputs hold after each point -/

/-- What the outputs' staging buffers hold after the body at point `t`: the run's contents at
    the point's memrefs and input blocks. -/
def outsAt0 (c : Dev nD) (t : Fin cfg0.N) : Vec F S1x1440x2x128 .bf16 :=
  out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk0 V c 0 t) (iblk0 V c 1 t) (iblk0 V c 2 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp (LM F) :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp (LM F) :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_3
  iintro ⟨⟨⟨HS0, HS1, HR2, HR3, HR4, HR5, HR6, HR7, HR8, HR9⟩, Hg⟩, Ho, ⟨%d0, H0⟩, ⟨%d1, H1⟩, ⟨%d2, H2⟩, ⟨%d3, H3⟩⟩
  iapply ((kernelRun0_A c (grid0.coords t) _ _ _ _ _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 HR2 HR3 HR4 HR5 HR6 HR7 HR8 HR9 Hg]
  · isplitl [HS0 HS1 HR2 HR3 HR4 HR5 HR6 HR7 HR8 HR9]
    · isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      iexact HR9
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_A_3 c _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Own

end
-- ==== Proof.KernelIdealMatmul.lean ====
/- The matmul region of `KernelIdeal`: the run of its body at any point and its proof data, at the buffer contents the region is entered with. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.KernelIdealLoop
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S1x512x2880 .bf16 := (Memref.whole cc1_stg3_0 : Memref sig .tc .vmem S1x512x2880 .bf16).view
/-- Each window's current staging memref at point `t`, spelled as the pipeline passes it (`bodyAt1`), and its wholeness. -/
abbrev ms1_0 (t : Fin cfg1.N) : Memref sig .tc .vmem S1x512x6144 .fp8e5m2 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x48 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S48x1440x2x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x2880 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S512x6144 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp (LM F))
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 2492000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole)
    (x0 : Vec F S1x512x6144 .fp8e5m2) (x1 : Vec F S1x512x48 .f32) (x2 : Vec F S48x1440x2x128 .bf16) :
    Σ' (L3 : List (View.Piece (Elt F) S1x512x2880 .bf16)), { LT0 : List (View.Piece (Elt F) S512x6144 .bf16) //
      ∀ (E : Set ℕ) (K : PUnit → sProp (LM F)),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc1_matmul i arg1 harg1 arg2 harg2 arg3 harg3 arg4 harg4 arg5 harg5) K } := by
  refine ⟨?_, ?_, fun E K => ?run⟩
  case run =>
    simp only [cc1_matmul_eq_skeleton]; unfold cc1_matmul_skel
    simp only [k1_part57_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton, k1_part48_eq_skeleton, k1_part49_eq_skeleton, k1_part50_eq_skeleton, k1_part51_eq_skeleton, k1_part52_eq_skeleton, k1_part53_eq_skeleton, k1_part54_eq_skeleton, k1_part55_eq_skeleton, k1_part56_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

/-- The run's pieces for output 3 are of SEVERAL sizes (6 stores of `S1x512x320`, `S1x512x512`): cut into blocks of `![1, 512, 64]` they tile its block (checked by the kernel's evaluation: Lib/Ring.lean `Piece.tiledBy`), so they cover it. -/
theorem cover1_A_3 (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole)
    (x0 : Vec F S1x512x6144 .fp8e5m2) (x1 : Vec F S1x512x48 .f32) (x2 : Vec F S48x1440x2x128 .bf16) (y : S1x512x2880.Idx) :
    ∃ pc ∈ (kernelRun1_A c i arg1 harg1 arg2 harg2 arg3 harg3 arg4 harg4 arg5 harg5 x0 x1 x2).1, y ∈ pc.1.set :=
  View.cover_of_tiledBy (kernelRun1_A c i arg1 harg1 arg2 harg2 arg3 harg3 arg4 harg4 arg5 harg5 x0 x1 x2).1 ![1, 512, 64] (by sl_kernel_rfl) y

/-- What the run leaves in output 3's staging buffer: its pieces read back over junk. -/
def out1_A_3 (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole)
    (x0 : Vec F S1x512x6144 .fp8e5m2) (x1 : Vec F S1x512x48 .f32) (x2 : Vec F S48x1440x2x128 .bf16) : Vec F S1x512x2880 .bf16 :=
  VO1_3.read (Elt F) (VO1_3.writes (Elt F) VO1_3.junk (kernelRun1_A c i arg1 harg1 arg2 harg2 arg3 harg3 arg4 harg4 arg5 harg5 x0 x1 x2).1)

/-! ## What the outputs hold after each point -/

/-- What the outputs' staging buffers hold after the body at point `t`: the run's contents at
    the point's memrefs and input blocks. -/
def outsAt1 (c : Dev nD) (t : Fin cfg1.N) : Vec F S1x512x2880 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp (LM F) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp (LM F) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HR0 HR1 HR2 HR3 HR4 HR5 HR6 HR7 HR8 HR9 HS0 Hg]
  · isplitl [HR0 HR1 HR2 HR3 HR4 HR5 HR6 HR7 HR8 HR9 HS0]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Own

end
-- ==== Proof.KernelIdealRun.lean ====
/- The run of `KernelIdeal`: the two regions and the host line before them, the buffer contents at every boundary, and the frame. -/
module

public import proofs.«01_k».proof.Proof.KernelIdealDecode
public import proofs.«01_k».proof.Proof.KernelIdealMatmul

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no host stretch writes one and no region may change one (a region reads it
    through an input window or bypasses it) -/

theorem W3_main_arg0 (c : Dev nD) : W3 m ρ c (Proc.devRef .tc main_arg0) = m ((c : Thread nD τ).loc main_arg0) :=
  W3_args m ρ c main_arg0 (by decide)
theorem W3_main_arg1 (c : Dev nD) : W3 m ρ c (Proc.devRef .tc main_arg1) = m ((c : Thread nD τ).loc main_arg1) :=
  W3_args m ρ c main_arg1 (by decide)
theorem W3_main_arg2 (c : Dev nD) : W3 m ρ c (Proc.devRef .tc main_arg2) = m ((c : Thread nD τ).loc main_arg2) :=
  W3_args m ρ c main_arg2 (by decide)
theorem W3_main_arg3 (c : Dev nD) : W3 m ρ c (Proc.devRef .tc main_arg3) = m ((c : Thread nD τ).loc main_arg3) :=
  W3_args m ρ c main_arg3 (by decide)
theorem W3_main_arg4 (c : Dev nD) : W3 m ρ c (Proc.devRef .tc main_arg4) = m ((c : Thread nD τ).loc main_arg4) :=
  W3_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (LM F) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp (LM F) := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole program runs, every unscoped array ends at the value `W3` gives it, and every counter reads zero. -/
theorem run_state : θ_run defs (onTc (τ := τ) (main (F := F))) ⟨m, fun _ => 0, ρ⟩ (fun r => (∀ c : Dev nD,
      ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (LM F))
            ⊢ BI.own (emb₁ (initOf (Pipeline.cells cfgs cellOf_inj) (Pipeline.launchToks cfgs cellOf_inj))) from .rfl)
        iexact Hu
      iapply (show (BI.emp : sProp (LM F)) ⊢ bigSep Finset.univ (fun _ : Dev nD => (BI.emp : sProp (LM F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W3_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c)⟩, h.2⟩) (run_state m ρ)

/-- The result array at the end: what the second pipeline's output window holds after its last step; the arguments unchanged. -/
theorem run_value : θ_run defs (onTc (τ := τ) (main (F := F))) ⟨m, fun _ => 0, ρ⟩ (fun r => ∀ c : Dev nD,
      r.2.mem ((c.tc : Thread nD τ).loc main_v2) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h.1 c _ (mem_uc main_v2 (by decide))).trans (W3_arr m ρ c 3),
       (h.1 c _ (mem_uc main_arg0 (by decide))).trans (W3_main_arg0 m ρ c),
       (h.1 c _ (mem_uc main_arg1 (by decide))).trans (W3_main_arg1 m ρ c),
       (h.1 c _ (mem_uc main_arg2 (by decide))).trans (W3_main_arg2 m ρ c),
       (h.1 c _ (mem_uc main_arg3 (by decide))).trans (W3_main_arg3 m ρ c),
       (h.1 c _ (mem_uc main_arg4 (by decide))).trans (W3_main_arg4 m ρ c)⟩) (run_state m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.KernelIdeal.Own

end
-- ==== Proof.Claims.lean ====
/- The frames of the kernel and its idealization, the reference's frame, and the `preserves` claim (hand-written;
   Proof.lean assembles them). -/
module

public import proofs.«01_k».proof.Defs
public import proofs.«01_k».proof.Proof.KernelRun
public import proofs.«01_k».proof.Proof.KernelIdealRun
public import proofs.«01_k».proof.Proof.Gen.ReferenceIdeal.Frame
public import Idealize.ShloMosaic.Lib.Bf16PairInverse

@[expose] public section

noncomputable section

open Idealize.ShloMosaic Idealize.SL.Sem

namespace Cert.Proof

theorem frame_k : Cert.quiescent_Kernel := fun m ρ _ => Cert.Kernel.Own.frame m ρ
theorem frame_ki : Cert.quiescent_KernelIdeal := fun m ρ _ => Cert.KernelIdeal.Own.frame m ρ
theorem frame_ri : Cert.quiescent_ReferenceIdeal := fun m ρ _ => Cert.ReferenceIdeal.Gen.frame m ρ

/-- The ledger's sites as their nine distinct statements, in order of first appearance: the two re-typed buffers (the
    decoded weight array and its block), then per shape the rows read as words, the selects against the cleared half, and
    the accesses of both tilings of the second call (512-row chunks and the last 320-row chunk). -/
theorem preserves : Cert.preserves_Kernel_KernelIdeal :=
  open Cert.KernelIdeal IdealRules.bf16_pair in
  ⟨bufferStatement S48x1440x2x128 S48x1440x1x128, bufferStatement S1x1440x2x128 S1x1440x1x128, statement S16x128 S8x128,
    selectZeroStatement S8x128, statement S1x8x2x128 S1x8x1x128, statement S1x256x2x128 S1x256x1x128,
    statement S512x128 S256x128, statement S1x160x2x128 S1x160x1x128, statement S320x128 S160x128⟩

end Cert.Proof

end
-- ==== Proof.Slots.lean ====
/- Positions inside a metadata word, and the value that a group of four has at one of its slots: the scalar facts both
   programs' values are compared through. -/
module

public import Idealize.ShloMosaic.Lib.Pointwise
public import Idealize.ShloMosaic.PureOps.Ideal

@[expose] public section

noncomputable section

namespace Cert.Slots

open Idealize.ShloMosaic

/-- The two bits of a word from bit `j` on. -/
def slot (w : BitVec 32) (j : ℕ) : BitVec 32 := w.sshiftRight j &&& 3#32

theorem slot_cases (w : BitVec 32) (j : ℕ) : slot w j = 0#32 ∨ slot w j = 1#32 ∨ slot w j = 2#32 ∨ slot w j = 3#32 := by
  have h : (slot w j).toNat = (w.sshiftRight j).toNat % 4 := by
    unfold slot
    rw [BitVec.toNat_and]
    exact Nat.and_two_pow_sub_one_eq_mod _ 2
  have h4 : (slot w j).toNat < 4 := by omega
  have e : slot w j = BitVec.ofNat 32 (slot w j).toNat := by rw [BitVec.ofNat_toNat, BitVec.setWidth_eq]
  generalize (slot w j).toNat = n at e h4
  interval_cases n
  · exact .inl e
  · exact .inr (.inl e)
  · exact .inr (.inr (.inl e))
  · exact .inr (.inr (.inr e))

theorem shift (u : ArithUnit) (w : BitVec 32) (j : ℕ) (h : j < 32) : IntOp.shrsi u w (BitVec.ofNat 32 j) = w.sshiftRight j := by
  have e : (BitVec.ofNat 32 j).toNat = j := by rw [BitVec.toNat_ofNat]; exact Nat.mod_eq_of_lt (by omega)
  unfold IntOp.shrsi
  rw [e, if_pos h, BitVec.sshiftRight_eq', e]

theorem muli_ofNat (a b : ℕ) : IntOp.muli (BitVec.ofNat 32 a) (BitVec.ofNat 32 b) = BitVec.ofNat 32 (a * b) := by
  unfold IntOp.muli
  exact (BitVec.ofNat_mul a b).symm

/-- A position read by one shift. -/
theorem pos_one (u : ArithUnit) (w : BitVec 32) (a b : ℕ) (h : a * b < 32) :
    IntOp.andi (IntOp.shrsi u w (IntOp.muli (BitVec.ofNat 32 a) (BitVec.ofNat 32 b))) 3#32 = slot w (a * b) := by
  rw [muli_ofNat, shift u w _ h]; rfl

/-- A position read by a second shift of two. -/
theorem pos_two (u : ArithUnit) (w : BitVec 32) (a b : ℕ) (h : a * b < 32) :
    IntOp.andi (IntOp.shrsi u (IntOp.shrsi u w (IntOp.muli (BitVec.ofNat 32 a) (BitVec.ofNat 32 b))) 2#32) 3#32 = slot w (a * b + 2) := by
  rw [muli_ofNat, shift u w _ h, shift u _ 2 (by omega)]
  unfold slot IntOp.andi
  rw [BitVec.sshiftRight_add]

/-- The value of a group at slot `d`: the sum of the kept values whose position is `d`. -/
def dense (p0 p1 : BitVec 32) (v0 v1 : EReal) (d : ℕ) : EReal :=
  Scalar.select (IntOp.cmpi .eq p0 (BitVec.ofNat 32 d)) v0 0 + Scalar.select (IntOp.cmpi .eq p1 (BitVec.ofNat 32 d)) v1 0

theorem select_eq (p q : BitVec 32) (v z : EReal) : Scalar.select (IntOp.cmpi .eq p q) v z = if p = q then v else z := by
  unfold Scalar.select IntOp.cmpi
  by_cases h : p = q
  · rw [if_pos h]; exact if_pos (by simp [h])
  · rw [if_neg h]; exact if_neg (by dsimp only; rw [beq_eq_false_iff_ne.mpr h]; decide)

/-- Positions in increasing order. -/
abbrev Ordered (p0 p1 : BitVec 32) : Prop := IntOp.cmpi .slt p0 p1 = 1#1

variable (w : BitVec 32) (j j' : ℕ) (v0 v1 x : EReal)

/-- The pairs of positions a group can have. -/
theorem ordered_cases (h : Ordered (slot w j) (slot w j')) :
    (slot w j = 0#32 ∧ slot w j' = 1#32) ∨ (slot w j = 0#32 ∧ slot w j' = 2#32) ∨ (slot w j = 0#32 ∧ slot w j' = 3#32)
      ∨ (slot w j = 1#32 ∧ slot w j' = 2#32) ∨ (slot w j = 1#32 ∧ slot w j' = 3#32) ∨ (slot w j = 2#32 ∧ slot w j' = 3#32) := by
  rcases slot_cases w j with a | a | a | a <;> rcases slot_cases w j' with b | b | b | b <;> rw [a, b] at h ⊢ <;>
    first | decide | exact absurd h (by decide)

/-- Scaling the kept values scales the group. -/
theorem dense_scale (d : ℕ) (h : Ordered (slot w j) (slot w j')) :
    dense (slot w j) (slot w j') (v0 * x) (v1 * x) d = dense (slot w j) (slot w j') v0 v1 d * x := by
  have hne : ¬ (slot w j = BitVec.ofNat 32 d ∧ slot w j' = BitVec.ofNat 32 d) := by
    rintro ⟨a, b⟩
    rcases ordered_cases w j j' h with ⟨e, e'⟩ | ⟨e, e'⟩ | ⟨e, e'⟩ | ⟨e, e'⟩ | ⟨e, e'⟩ | ⟨e, e'⟩ <;>
      exact absurd (e.symm.trans (a.trans (b.symm.trans e'))) (by decide)
  unfold dense
  simp only [select_eq]
  by_cases a : slot w j = BitVec.ofNat 32 d
  · rw [if_pos a, if_pos a, if_neg fun b => hne ⟨a, b⟩, if_neg fun b => hne ⟨a, b⟩, add_zero, add_zero]
  · rw [if_neg a, if_neg a, zero_add, zero_add]
    by_cases b : slot w j' = BitVec.ofNat 32 d
    · rw [if_pos b, if_pos b]
    · rw [if_neg b, if_neg b, zero_mul]

/-- Slot 0, as the kernel selects it. -/
theorem slot0 (h : Ordered (slot w j) (slot w j')) :
    Scalar.select (IntOp.cmpi .eq (slot w j) 0#32) v0 0 = dense (slot w j) (slot w j') v0 v1 0 := by
  rcases ordered_cases w j j' h with ⟨e, e'⟩ | ⟨e, e'⟩ | ⟨e, e'⟩ | ⟨e, e'⟩ | ⟨e, e'⟩ | ⟨e, e'⟩ <;> rw [e, e'] <;>
    simp [dense, IntOp.cmpi, Scalar.select]

/-- Slot 1. -/
theorem slot1 (h : Ordered (slot w j) (slot w j')) :
    Scalar.select (IntOp.cmpi .eq (slot w j') 1#32) v1
      (Scalar.select (IntOp.cmpi .eq (slot w j) 0#32) 0 (Scalar.select (IntOp.cmpi .eq (slot w j) 1#32) v0 0))
      = dense (slot w j) (slot w j') v0 v1 1 := by
  rcases ordered_cases w j j' h with ⟨e, e'⟩ | ⟨e, e'⟩ | ⟨e, e'⟩ | ⟨e, e'⟩ | ⟨e, e'⟩ | ⟨e, e'⟩ <;> rw [e, e'] <;>
    simp [dense, IntOp.cmpi, Scalar.select]

/-- Slot 2. -/
theorem slot2 (h : Ordered (slot w j) (slot w j')) :
    Scalar.select (IntOp.cmpi .eq (slot w j) 2#32) v0
      (Scalar.select (IntOp.cmpi .eq (slot w j') 3#32) 0 (Scalar.select (IntOp.cmpi .eq (slot w j') 2#32) v1 0))
      = dense (slot w j) (slot w j') v0 v1 2 := by
  rcases ordered_cases w j j' h with ⟨e, e'⟩ | ⟨e, e'⟩ | ⟨e, e'⟩ | ⟨e, e'⟩ | ⟨e, e'⟩ | ⟨e, e'⟩ <;> rw [e, e'] <;>
    simp [dense, IntOp.cmpi, Scalar.select]

/-- Slot 3. -/
theorem slot3 (h : Ordered (slot w j) (slot w j')) :
    Scalar.select (IntOp.cmpi .eq (slot w j') 3#32) v1 0 = dense (slot w j) (slot w j') v0 v1 3 := by
  rcases ordered_cases w j j' h with ⟨e, e'⟩ | ⟨e, e'⟩ | ⟨e, e'⟩ | ⟨e, e'⟩ | ⟨e, e'⟩ | ⟨e, e'⟩ <;> rw [e, e'] <;>
    simp [dense, IntOp.cmpi, Scalar.select]

end Cert.Slots

end
-- ==== Proof.DecodePure.lean ====
/- The decode kernel's stored values at an index, as extended reals: the words of one metadata row are the dense groups
   of sixteen value rows. -/
module

public import proofs.«01_k».proof.Proof.Gen.KernelIdeal.Skeleton
public import proofs.«01_k».proof.Proof.Slots
public import Idealize.ShloMosaic.Lib.Pointwise
public import Idealize.ShloMosaic.PureOps.Ideal

@[expose] public section

set_option maxRecDepth 16384

noncomputable section

namespace Cert.KernelIdeal.Own

open Idealize.ShloMosaic Idealize.ShloMosaic.TcCoe Idealize.SL.Sem
open Cert.KernelIdeal Cert.KernelIdeal.Gen

variable (M : Vec Ideal S1x128 .i32) (v : Vec Ideal S16x128 .bf16) (s : Fin 8) (q : Fin 2) (l : Fin 128)

open Cert.Slots

/-- The even word rows: slots 0 and 1 of group `s`. -/
theorem pay4_at (h : Ordered (slot (M (ix2 0 l)) (4 * s)) (slot (M (ix2 0 l)) (4 * s + 2))) :
    k0_pay4 (F := Ideal) (k0_pay13 k0_pay3 M v) (k0_pay14 k0_pay3 M v) (ix4 0 s q l)
      = dense (slot (M (ix2 0 l)) (4 * s)) (slot (M (ix2 0 l)) (4 * s + 2)) (v (ix2 ⟨2 * s, by omega⟩ l)) (v (ix2 ⟨2 * s + 1, by omega⟩ l)) q := by
  have hs : 4 * (s : ℕ) < 32 := by omega
  fin_vals q with hq
  · pointwise [k0_pay4, k0_pay13, k0_pay14, k0_pay11, k0_pay12, k0_pay9, k0_pay10, k0_pay7, k0_pay8, k0_pay6, k0_pay3, pos_one _ _ _ _ hs, pos_two _ _ _ _ hs]
    rw [if_pos (by omega), hq]
    exact slot0 _ _ _ _ _ h
  · pointwise [k0_pay4, k0_pay13, k0_pay14, k0_pay11, k0_pay12, k0_pay9, k0_pay10, k0_pay7, k0_pay8, k0_pay6, k0_pay3, pos_one _ _ _ _ hs, pos_two _ _ _ _ hs]
    rw [if_neg (by omega), hq]
    exact slot1 _ _ _ _ _ h

/-- The odd word rows: slots 2 and 3 of group `s`. -/
theorem pay5_at (h : Ordered (slot (M (ix2 0 l)) (4 * s)) (slot (M (ix2 0 l)) (4 * s + 2))) :
    k0_pay5 (F := Ideal) (k0_pay7 k0_pay3 M) (k0_pay9 v) (k0_pay10 v) (k0_pay15 k0_pay3 M) (k0_pay16 k0_pay3 M v) (ix4 0 s q l)
      = dense (slot (M (ix2 0 l)) (4 * s)) (slot (M (ix2 0 l)) (4 * s + 2)) (v (ix2 ⟨2 * s, by omega⟩ l)) (v (ix2 ⟨2 * s + 1, by omega⟩ l)) (2 + q) := by
  have hs : 4 * (s : ℕ) < 32 := by omega
  fin_vals q with hq
  · pointwise [k0_pay5, k0_pay15, k0_pay16, k0_pay11, k0_pay12, k0_pay9, k0_pay10, k0_pay7, k0_pay8, k0_pay6, k0_pay3, pos_one _ _ _ _ hs, pos_two _ _ _ _ hs]
    rw [if_pos (by omega), hq]
    exact slot2 _ _ _ _ _ h
  · pointwise [k0_pay5, k0_pay15, k0_pay16, k0_pay11, k0_pay12, k0_pay9, k0_pay10, k0_pay7, k0_pay8, k0_pay6, k0_pay3, pos_one _ _ _ _ hs, pos_two _ _ _ _ hs]
    rw [if_neg (by omega), hq]
    exact slot3 _ _ _ _ _ h

theorem pay1_at (x : Vec Ideal S128x90 .i32) (j : Fin 90) : k0_pay1 (F := Ideal) x (ix2 j l) = x (ix2 l j) := by
  pointwise [k0_pay1]

theorem pay2_at (sc : Vec Ideal S1x128 .f32) (x : Vec Ideal S128x1440 .fp8e4m3) (j : Fin 1440) :
    k0_pay2 (F := Ideal) sc x (ix2 j l) = x (ix2 l j) * sc (ix2 0 l) := by
  pointwise [k0_pay2]

end Cert.KernelIdeal.Own
end
-- ==== Proof.DecodeValue.lean ====
/- What the decode pipeline leaves in the dense weight array: at every point its block is the dense groups of the block's
   rows, and the blocks tile the array. -/
module

public import proofs.«01_k».proof.Proof.KernelIdealDecode
public import proofs.«01_k».proof.Proof.DecodePure
public import Idealize.ShloMosaic.Lib.VecWindow
public import Idealize.ShloMosaic.Lib.Pipeline.ValueKit

@[expose] public section

set_option maxRecDepth 16384

noncomputable section

namespace Cert.KernelIdeal.Own

open Idealize.ShloMosaic Idealize.ShloMosaic.TcCoe Idealize.SL.Sem
open Cert.KernelIdeal Cert.KernelIdeal.Gen Cert.Slots

/-- The dense block of a block of kept values `x0`, metadata words `x1` and row scales `x2`: word row `r` of lane `l` holds
    slots `2 (r % 2)` and `2 (r % 2) + 1` of group `r / 2` of row `l`. -/
def blockOf (x0 : Vec Ideal S128x1440 .fp8e4m3) (x1 : Vec Ideal S128x90 .i32) (x2 : Vec Ideal S1x128 .f32) (r : Fin 1440) (q : Fin 2) (l : Fin 128) : EReal :=
  dense (slot (x1 (ix2 l ⟨r / 16, by omega⟩)) (4 * (r / 2 % 8))) (slot (x1 (ix2 l ⟨r / 16, by omega⟩)) (4 * (r / 2 % 8) + 2))
    (x0 (ix2 l ⟨r / 2 * 2, by omega⟩) * x2 (ix2 0 l)) (x0 (ix2 l ⟨r / 2 * 2 + 1, by omega⟩) * x2 (ix2 0 l)) (2 * (r % 2) + q)

/-- The same, at an index of the block. -/
def blockAt (x0 : Vec Ideal S128x1440 .fp8e4m3) (x1 : Vec Ideal S128x90 .i32) (x2 : Vec Ideal S1x128 .f32) (z : S1x1440x2x128.Idx) : EReal :=
  blockOf x0 x1 x2 (z 1) (z 2) (z 3)

/-- The positions of every group of a metadata block are in increasing order. -/
def BlockOrdered (x1 : Vec Ideal S128x90 .i32) : Prop :=
  ∀ (l : Fin 128) (j : Fin 90) (s : Fin 8), Ordered (slot (x1 (ix2 l j)) (4 * s)) (slot (x1 (ix2 l j)) (4 * s + 2))

theorem trip_lt (k : Fin k0_t1_loop.trips) : k.val < 90 := Nat.lt_of_lt_of_eq k.isLt trips_eq

/-- The metadata row a trip loads. -/
theorem load_meta (arg5 : Memref sig .tc .vmem S90x128 .i32) (X : BufTy.Contents (Elt Ideal) arg5.view.ty) (x1 : Vec Ideal S128x90 .i32)
    (hX : arg5.view.read (Elt Ideal) X = k0_pay1 (F := Ideal) x1) (k : Fin k0_t1_loop.trips) (l : Fin 128) :
    (View.readAt (Elt Ideal) arg5.view (Rect.unit (s := S90x128) (k0_off1 k) S1x128.size (k0_off1_inb k)).toLoadRect X : Vec Ideal S1x128 .i32) (ix2 0 l)
      = x1 (ix2 l ⟨k, trip_lt k⟩) := by
  rw [← pay1_at l x1 ⟨k, trip_lt k⟩, ← hX]
  refine congrArg (arg5.view.read (Elt Ideal) X) (funext fun a => Fin.ext ?_)
  have e0 : k0_off1 k 0 = k.val := congrFun (k0_off1_eq k) 0
  have e1 : k0_off1 k 1 = 0 := congrFun (k0_off1_eq k) 1
  match a with
  | ⟨0, _⟩ => show k0_off1 k 0 + 1 * 0 = k.val; omega
  | ⟨1, _⟩ => show k0_off1 k 1 + 1 * l.val = l.val; omega

/-- The value rows a trip loads, scaled. -/
theorem load_vals (arg6 : Memref sig .tc .vmem S1440x128 .bf16) (X : BufTy.Contents (Elt Ideal) arg6.view.ty) (x0 : Vec Ideal S128x1440 .fp8e4m3) (x2 : Vec Ideal S1x128 .f32)
    (hX : arg6.view.read (Elt Ideal) X = k0_pay2 (F := Ideal) x2 x0) (k : Fin k0_t1_loop.trips) (e : Fin 16) (l : Fin 128) :
    (View.readAt (Elt Ideal) arg6.view (Rect.unit (s := S1440x128) (k0_off2 k) S16x128.size (k0_off2_inb k)).toLoadRect X : Vec Ideal S16x128 .bf16) (ix2 e l)
      = x0 (ix2 l ⟨16 * k + e, by have := trip_lt k; omega⟩) * x2 (ix2 0 l) := by
  rw [← pay2_at l x2 x0 ⟨16 * k + e, by have := trip_lt k; omega⟩, ← hX]
  refine congrArg (arg6.view.read (Elt Ideal) X) (funext fun a => Fin.ext ?_)
  have e0 : k0_off2 k 0 = 16 * k.val := congrFun (k0_off2_eq k) 0
  have e1 : k0_off2 k 1 = 0 := congrFun (k0_off2_eq k) 1
  match a with
  | ⟨0, _⟩ => show k0_off2 k 0 + 1 * e.val = 16 * k.val + e.val; omega
  | ⟨1, _⟩ => show k0_off2 k 1 + 1 * l.val = l.val; omega

theorem rectA_emb (k : Fin k0_t1_loop.trips) (a : Fin 1) (s : Fin 8) (q : Fin 2) (l : Fin 128) :
    (rectA k).emb (ix4 a s q l : S1x8x2x128.Idx) = (ix4 0 ⟨16 * k + 2 * s, by have := trip_lt k; omega⟩ q l : S1x1440x2x128.Idx) := by
  refine funext fun d => Fin.ext ?_
  show k0_off3 k d + ![1, 2, 1, 1] d * _ = _
  rw [k0_off3_eq]
  match d with
  | ⟨0, _⟩ => show 0 + 1 * a.val = 0; omega
  | ⟨1, _⟩ => rfl
  | ⟨2, _⟩ => show 0 + 1 * q.val = q.val; omega
  | ⟨3, _⟩ => show 0 + 1 * l.val = l.val; omega

theorem rectB_emb (k : Fin k0_t1_loop.trips) (a : Fin 1) (s : Fin 8) (q : Fin 2) (l : Fin 128) :
    (rectB k).emb (ix4 a s q l : S1x8x2x128.Idx) = (ix4 0 ⟨16 * k + 1 + 2 * s, by have := trip_lt k; omega⟩ q l : S1x1440x2x128.Idx) := by
  refine funext fun d => Fin.ext ?_
  show k0_off4 k d + ![1, 2, 1, 1] d * _ = _
  rw [k0_off4_eq]
  match d with
  | ⟨0, _⟩ => show 0 + 1 * a.val = 0; omega
  | ⟨1, _⟩ => rfl
  | ⟨2, _⟩ => show 0 + 1 * q.val = q.val; omega
  | ⟨3, _⟩ => show 0 + 1 * l.val = l.val; omega

/-- The block's value at a row of trip `k`. -/
theorem blockOf_row (x0 : Vec Ideal S128x1440 .fp8e4m3) (x1 : Vec Ideal S128x90 .i32) (x2 : Vec Ideal S1x128 .f32) (k : Fin 90) (p : Fin 2) (s : Fin 8) (q : Fin 2) (l : Fin 128)
    (r : Fin 1440) (hr : r.val = 16 * k + p + 2 * s) :
    blockOf x0 x1 x2 r q l = dense (slot (x1 (ix2 l k)) (4 * s)) (slot (x1 (ix2 l k)) (4 * s + 2))
      (x0 (ix2 l ⟨16 * k + 2 * s, by omega⟩) * x2 (ix2 0 l)) (x0 (ix2 l ⟨16 * k + (2 * s + 1), by omega⟩) * x2 (ix2 0 l)) (2 * p + q) := by
  unfold blockOf
  have e1 : (⟨r / 16, by omega⟩ : Fin 90) = k := Fin.ext (by show r.val / 16 = k.val; omega)
  have e2 : r.val / 2 % 8 = s := by omega
  have e3 : (⟨r / 2 * 2, by omega⟩ : Fin 1440) = ⟨16 * k + 2 * s, by omega⟩ := Fin.ext (by show r.val / 2 * 2 = 16 * k.val + 2 * s.val; omega)
  have e4 : (⟨r / 2 * 2 + 1, by omega⟩ : Fin 1440) = ⟨16 * k + (2 * s + 1), by omega⟩ := Fin.ext (by show r.val / 2 * 2 + 1 = 16 * k.val + (2 * s.val + 1); omega)
  have e5 : r.val % 2 = p := by omega
  rw [e1, e2, e3, e4, e5]

/-- Every piece of a trip holds the block's values. -/
theorem trip_piece (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole)
    (X5 : BufTy.Contents (Elt Ideal) arg5.view.ty) (X6 : BufTy.Contents (Elt Ideal) arg6.view.ty) (x0 : Vec Ideal S128x1440 .fp8e4m3) (x1 : Vec Ideal S128x90 .i32) (x2 : Vec Ideal S1x128 .f32)
    (h5 : arg5.view.read (Elt Ideal) X5 = k0_pay1 (F := Ideal) x1) (h6 : arg6.view.read (Elt Ideal) X6 = k0_pay2 (F := Ideal) x2 x0) (ho : BlockOrdered x1)
    (k : Fin k0_t1_loop.trips) (p : View.Piece (Elt Ideal) S1x1440x2x128 .bf16)
    (hp : p ∈ tripL_k0_t1 (F := Ideal) 𝒱 c bd i arg1 harg1 arg2 harg2 arg3 harg3 arg4 harg4 arg5 harg5 arg6 harg6 X5 X6 k) (x : p.1.shape.Idx) :
    p.2 x = blockAt x0 x1 x2 (p.1.emb x) := by
  unfold tripL_k0_t1 trip_k0_t1 at hp
  dsimp only at hp
  unfold trip_k0_t1.sl.r trip_k0_t1.sl.r_1 trip_k0_t1.sl.r_2 trip_k0_t1.sl.r_3 trip_k0_t1.sl.r_4 trip_k0_t1.sl.r_5 trip_k0_t1.sl.r_6 at hp
  have hk : k.val < 90 := trip_lt k
  rcases List.mem_cons.mp hp with rfl | hp
  · obtain ⟨a, s, q, l, rfl⟩ : ∃ (a : Fin 1) (s : Fin 8) (q : Fin 2) (l : Fin 128), x = (ix4 a s q l : S1x8x2x128.Idx) :=
      ⟨x 0, x 1, x 2, x 3, by funext d; match d with | ⟨0, _⟩ => rfl | ⟨1, _⟩ => rfl | ⟨2, _⟩ => rfl | ⟨3, _⟩ => rfl⟩
    rw [show a = 0 from Subsingleton.elim _ _]
    refine Eq.trans ?_ (congrArg (blockAt x0 x1 x2) (rectB_emb k 0 s q l)).symm
    have hm := load_meta arg5 X5 x1 h5 k l
    refine (pay5_at _ _ s q l ?_).trans ?_
    · rw [hm]; exact ho l ⟨k, hk⟩ s
    · rw [hm, load_vals arg6 X6 x0 x2 h6 k, load_vals arg6 X6 x0 x2 h6 k]
      exact (blockOf_row x0 x1 x2 ⟨k, hk⟩ 1 s q l _ rfl).symm
  · rw [List.mem_singleton] at hp
    subst hp
    obtain ⟨a, s, q, l, rfl⟩ : ∃ (a : Fin 1) (s : Fin 8) (q : Fin 2) (l : Fin 128), x = (ix4 a s q l : S1x8x2x128.Idx) :=
      ⟨x 0, x 1, x 2, x 3, by funext d; match d with | ⟨0, _⟩ => rfl | ⟨1, _⟩ => rfl | ⟨2, _⟩ => rfl | ⟨3, _⟩ => rfl⟩
    rw [show a = 0 from Subsingleton.elim _ _]
    refine Eq.trans ?_ (congrArg (blockAt x0 x1 x2) (rectA_emb k 0 s q l)).symm
    have hm := load_meta arg5 X5 x1 h5 k l
    refine (pay4_at _ _ s q l ?_).trans ?_
    · rw [hm]; exact ho l ⟨k, hk⟩ s
    · rw [hm, load_vals arg6 X6 x0 x2 h6 k, load_vals arg6 X6 x0 x2 h6 k]
      refine Eq.trans ?_ (blockOf_row x0 x1 x2 ⟨k, hk⟩ 0 s q l _ rfl).symm
      rw [show 2 * ((0 : Fin 2) : ℕ) + (q : ℕ) = q from Nat.zero_add _]

/-- Every piece of the trips before `n` holds the block's values. -/
theorem pb_piece (𝒱 : Variants) (c : Dev nD) (bd : Option 𝒱.V) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole)
    (X5 : BufTy.Contents (Elt Ideal) arg5.view.ty) (X6 : BufTy.Contents (Elt Ideal) arg6.view.ty) (x0 : Vec Ideal S128x1440 .fp8e4m3) (x1 : Vec Ideal S128x90 .i32) (x2 : Vec Ideal S1x128 .f32)
    (h5 : arg5.view.read (Elt Ideal) X5 = k0_pay1 (F := Ideal) x1) (h6 : arg6.view.read (Elt Ideal) X6 = k0_pay2 (F := Ideal) x2 x0) (ho : BlockOrdered x1) :
    ∀ n : ℕ, n ≤ k0_t1_loop.trips → ∀ p ∈ pb_k0_t1 (F := Ideal) 𝒱 c bd i arg1 harg1 arg2 harg2 arg3 harg3 arg4 harg4 arg5 harg5 arg6 harg6 X5 X6 n, ∀ x : p.1.shape.Idx,
      p.2 x = blockAt x0 x1 x2 (p.1.emb x)
  | 0, _, p, hp => by rw [pb_k0_t1.eq_1] at hp; exact absurd hp List.not_mem_nil
  | n + 1, hn, p, hp => by
    rw [pb_k0_t1_succ (F := Ideal) 𝒱 c bd i arg1 harg1 arg2 harg2 arg3 harg3 arg4 harg4 arg5 harg5 arg6 harg6 X5 X6 ⟨n, hn⟩] at hp
    rcases List.mem_append.mp hp with h | h
    · exact trip_piece 𝒱 c bd i arg1 harg1 arg2 harg2 arg3 harg3 arg4 harg4 arg5 harg5 arg6 harg6 X5 X6 x0 x1 x2 h5 h6 ho ⟨n, hn⟩ p h
    · exact pb_piece 𝒱 c bd i arg1 harg1 arg2 harg2 arg3 harg3 arg4 harg4 arg5 harg5 arg6 harg6 X5 X6 x0 x1 x2 h5 h6 ho n (Nat.le_of_succ_le hn) p h

/-- What the body leaves in its output block. -/
theorem out0_at (c : Dev nD) (i : grid0.Coords) (arg1 : Memref sig .tc .vmem S128x1440 .fp8e4m3) (harg1 : arg1.IsWhole) (arg2 : Memref sig .tc .vmem S128x90 .i32) (harg2 : arg2.IsWhole) (arg3 : Memref sig .tc .vmem S1x128 .f32) (harg3 : arg3.IsWhole) (arg4 : Memref sig .tc .vmem S1x1440x2x128 .bf16) (harg4 : arg4.IsWhole) (arg5 : Memref sig .tc .vmem S90x128 .i32) (harg5 : arg5.IsWhole) (arg6 : Memref sig .tc .vmem S1440x128 .bf16) (harg6 : arg6.IsWhole)
    (x0 : Vec Ideal S128x1440 .fp8e4m3) (x1 : Vec Ideal S128x90 .i32) (x2 : Vec Ideal S1x128 .f32) (ho : BlockOrdered x1) (y : S1x1440x2x128.Idx) :
    out0_A_3 (F := Ideal) c i arg1 harg1 arg2 harg2 arg3 harg3 arg4 harg4 arg5 harg5 arg6 harg6 x0 x1 x2 y = blockAt x0 x1 x2 y := by
  unfold out0_A_3
  refine View.read_writes_apply_of_pieces VO0_3 _ (blockAt x0 x1 x2) _ (fun p hp x => ?_) y
    (cover0_A_3 (F := Ideal) c i arg1 harg1 arg2 harg2 arg3 harg3 arg4 harg4 arg5 harg5 arg6 harg6 x0 x1 x2 y)
  unfold kernelRun0_A at hp
  dsimp only at hp
  unfold kernelRun0_A.sl.HS0_1 kernelRun0_A.sl.HS1_1 at hp
  refine pb_piece Variants.none c none i arg1 harg1 arg2 harg2 arg3 harg3 arg4 harg4 arg5 harg5 arg6 harg6 _ _ x0 x1 x2 ?_ ?_ ho _ le_rfl p hp x
  · rw [View.read_writes_full, View.readAt_full, harg2.read_unread]
  · rw [View.read_writes_full, View.readAt_full, View.readAt_full, harg1.read_unread, harg3.read_unread]

end Cert.KernelIdeal.Own

end
-- ==== Proof.DecodeArr.lean ====
/- The dense weight array after the decode pipeline. -/
module

public import proofs.«01_k».proof.Proof.DecodeValue

@[expose] public section

set_option maxRecDepth 16384

noncomputable section

namespace Cert.KernelIdeal.Own

open Idealize.ShloMosaic Idealize.ShloMosaic.TcCoe Idealize.SL.Sem
open Cert.KernelIdeal Cert.KernelIdeal.Gen Cert.Slots

/-- The dense weights of kept values `x`, metadata words `W` and row scales `S`: entry `(t, r, q, l)` is slot
    `2 (r % 2) + q` of group `r / 2` of row `128 t + l`. -/
def weights (x : Vec Ideal S6144x1440 .fp8e4m3) (W : Vec Ideal S6144x90 .i32) (S : Vec Ideal S1x6144 .f32) (t : Fin 48) (r : Fin 1440) (q : Fin 2) (l : Fin 128) : EReal :=
  dense (slot (W (ix2 ⟨128 * t + l, by omega⟩ ⟨r / 16, by omega⟩)) (4 * (r / 2 % 8))) (slot (W (ix2 ⟨128 * t + l, by omega⟩ ⟨r / 16, by omega⟩)) (4 * (r / 2 % 8) + 2))
    (x (ix2 ⟨128 * t + l, by omega⟩ ⟨r / 2 * 2, by omega⟩) * S (ix2 0 ⟨128 * t + l, by omega⟩))
    (x (ix2 ⟨128 * t + l, by omega⟩ ⟨r / 2 * 2 + 1, by omega⟩) * S (ix2 0 ⟨128 * t + l, by omega⟩)) (2 * (r % 2) + q)

/-- The same, at an index of the array. -/
def weightsAt (x : Vec Ideal S6144x1440 .fp8e4m3) (W : Vec Ideal S6144x90 .i32) (S : Vec Ideal S1x6144 .f32) (z : S48x1440x2x128.Idx) : EReal :=
  weights x W S (z 0) (z 1) (z 2) (z 3)

/-- The positions of every group are in increasing order. -/
def AllOrdered (W : Vec Ideal S6144x90 .i32) : Prop :=
  ∀ (o : Fin 6144) (j : Fin 90) (s : Fin 8), Ordered (slot (W (ix2 o j)) (4 * s)) (slot (W (ix2 o j)) (4 * s + 2))

theorem idx0 : ∀ t : Fin cfg0.N, win0_0.index t = ![t.val, 0] ∧ win0_1.index t = ![t.val, 0] ∧ win0_2.index t = ![0, t.val]
    ∧ win0_3.index t = ![t.val, 0, 0, 0] :=
  (by decide +kernel : ∀ t : Fin grid0.N, win0_0.index t = ![t.val, 0] ∧ win0_1.index t = ![t.val, 0] ∧ win0_2.index t = ![0, t.val]
    ∧ win0_3.index t = ![t.val, 0, 0, 0])

theorem N0 : cfg0.N = 48 := by decide +kernel

theorem lt0 (t : Fin cfg0.N) : t.val < 48 := Nat.lt_of_lt_of_eq t.isLt N0

variable (V : (c : Dev nD) → (b : Ref sig .tc) → Buf (Elt Ideal) ((c : Thread nD τ).loc b)) (c : Dev nD)

theorem meta_block (t : Fin cfg0.N) (l : Fin 128) (j : Fin 90) :
    (iblk0 V c 1 t : Vec Ideal S128x90 .i32) (ix2 l j) = (V c main_arg3 : Vec Ideal S6144x90 .i32) (ix2 ⟨128 * t + l, by have := lt0 t; omega⟩ j) := by
  blk_ext [iblk0, idx0 t]

theorem vals_block (t : Fin cfg0.N) (l : Fin 128) (j : Fin 1440) :
    (iblk0 V c 0 t : Vec Ideal S128x1440 .fp8e4m3) (ix2 l j) = (V c main_arg2 : Vec Ideal S6144x1440 .fp8e4m3) (ix2 ⟨128 * t + l, by have := lt0 t; omega⟩ j) := by
  blk_ext [iblk0, idx0 t]

theorem scale_block (t : Fin cfg0.N) (l : Fin 128) :
    (iblk0 V c 2 t : Vec Ideal S1x128 .f32) (ix2 0 l) = (V c main_v0 : Vec Ideal S1x6144 .f32) (ix2 0 ⟨128 * t + l, by have := lt0 t; omega⟩) := by
  blk_ext [iblk0, idx0 t]

theorem block_eq (t : Fin cfg0.N) (r : Fin 1440) (q : Fin 2) (l : Fin 128) :
    blockOf (iblk0 V c 0 t) (iblk0 V c 1 t) (iblk0 V c 2 t) r q l = weights (V c main_arg2) (V c main_arg3) (V c main_v0) ⟨t, lt0 t⟩ r q l := by
  unfold blockOf weights
  rw [meta_block V c t, vals_block V c t, vals_block V c t, scale_block V c t]

theorem block_emb (t : Fin cfg0.N) (y : S1x1440x2x128.Idx) :
    (win0_3.blk t).view.emb y = (ix4 ⟨t, lt0 t⟩ (y 1) (y 2) (y 3) : S48x1440x2x128.Idx) := by
  blk_ext [idx0 t]

/-- The decode pipeline's result. -/
theorem final0 (ho : AllOrdered (V c main_arg3)) :
    (dat0 V c).arrAt 3 cfg0.N = weightsAt (V c main_arg2) (V c main_arg3) (V c main_v0) := by
  refine (dat0 V c).arrAt_eq_of_covers 3 _ (by decide +kernel) fun t hf y => ?_
  blk_simp
  rw [after0_3]
  unfold outsAt0
  refine (out0_at c _ _ _ _ _ _ _ _ _ _ _ _ _ (iblk0 V c 0 t) (iblk0 V c 1 t) (iblk0 V c 2 t) ?_ y).trans ?_
  · intro l j s
    rw [meta_block V c t l j]
    exact ho _ j s
  · refine Eq.trans ?_ (congrArg (weightsAt (V c main_arg2) (V c main_arg3) (V c main_v0)) (block_emb t y)).symm
    exact block_eq V c t (y 1) (y 2) (y 3)

end Cert.KernelIdeal.Own

end
-- ==== Proof.MatmulPieces.lean ====
/- The matmul kernel's stores in closed form: forty-eight tiles of scaled gradients into the scratch, and six blocks of
   products of the stacked weight tiles with it. -/
module

public import proofs.«01_k».proof.Proof.KernelIdealMatmul
public import Idealize.ShloMosaic.PureOps.Ideal

@[expose] public section

set_option maxRecDepth 16384

noncomputable section

namespace Cert.KernelIdeal.Own

open Idealize.ShloMosaic Idealize.ShloMosaic.TcCoe Idealize.SL.Sem
open Cert.KernelIdeal Cert.KernelIdeal.Gen
open Idealize.ShloMosaic.Tactic

theorem scSlices (b : Fin 48) : S512x48.Slices ![0, b.val] S512x1 :=
  ⟨rfl, fun | ⟨0, _⟩ => le_rfl | ⟨1, _⟩ => by show b.val + 1 ≤ 48; omega⟩

/-- Tile `b` of the scaled gradients. -/
def dyTile (b : Fin 48) (v0 : Vec Ideal S1x512x48 .f32) (v3 : Vec Ideal S1x512x128 .fp8e5m2) : FVec Ideal S512x128 .bf16 :=
  shapeCast S512x128 (mulf (extf .bf16 (shapeCast S512x128 v3 shapeCasts_S1x512x128_S512x128) bitsLt_fp8e5m2_bf16)
    (broadcastTo S512x128 (extractStridedSlice S512x1 ![0, b.val] (k1_pay4 v0) (scSlices b)) broadcasts_S512x1_S512x128)) shapeCasts_S512x128_S512x128

theorem cInb (b : Fin 48) : ∀ a, (![0, 0, 128 * b.val] : Fin 3 → Nat) a + S1x512x128.size a ≤ S1x512x6144.size a
  | ⟨0, _⟩ => le_rfl
  | ⟨1, _⟩ => le_rfl
  | ⟨2, _⟩ => by show 128 * b.val + 128 ≤ 6144; omega

theorem dInb (b : Fin 48) : ∀ a, (![0, 128 * b.val] : Fin 2 → Nat) a + S512x128.size a ≤ S512x6144.size a
  | ⟨0, _⟩ => le_rfl
  | ⟨1, _⟩ => by show 128 * b.val + 128 ≤ 6144; omega

/-- Tile `b`'s store into the scratch. -/
def dyPiece (arg1 : Memref sig .tc .vmem S1x512x6144 .fp8e5m2) (harg1 : arg1.IsWhole) (arg2 : Memref sig .tc .vmem S1x512x48 .f32) (harg2 : arg2.IsWhole)
    (x0 : Vec Ideal S1x512x6144 .fp8e5m2) (x1 : Vec Ideal S1x512x48 .f32) (b : Fin 48) : View.Piece (Elt Ideal) S512x6144 .bf16 :=
  ⟨Rect.unit ![0, 128 * b.val] S512x128.size (dInb b),
    dyTile b (View.readAt (Elt Ideal) arg2.view (Rect.unit ![0, 0, 0] S1x512x48.size inb_S1x512x48_S1x512x48_0_0_0).toLoadRect (harg2.unread x1))
      (View.readAt (Elt Ideal) arg1.view (Rect.unit (s := S1x512x6144) ![0, 0, 128 * b.val] S1x512x128.size (cInb b)).toLoadRect (harg1.unread x0))⟩

/-- All the scratch's stores, last first. -/
def dyPieces (arg1 : Memref sig .tc .vmem S1x512x6144 .fp8e5m2) (harg1 : arg1.IsWhole) (arg2 : Memref sig .tc .vmem S1x512x48 .f32) (harg2 : arg2.IsWhole)
    (x0 : Vec Ideal S1x512x6144 .fp8e5m2) (x1 : Vec Ideal S1x512x48 .f32) : List (View.Piece (Elt Ideal) S512x6144 .bf16) :=
  List.ofFn fun k : Fin 48 => dyPiece arg1 harg1 arg2 harg2 x0 x1 k.rev

/-- The scratch as the products read it. -/
def dyRead (arg1 : Memref sig .tc .vmem S1x512x6144 .fp8e5m2) (harg1 : arg1.IsWhole) (arg2 : Memref sig .tc .vmem S1x512x48 .f32) (harg2 : arg2.IsWhole) (arg5 : Memref sig .tc .vmem S512x6144 .bf16)
    (x0 : Vec Ideal S1x512x6144 .fp8e5m2) (x1 : Vec Ideal S1x512x48 .f32) : Vec Ideal S512x6144 .bf16 :=
  arg5.view.readCov (dyPieces arg1 harg1 arg2 harg2 x0 x1) (Rect.unit ![0, 0] S512x6144.size inb_S512x6144_S512x6144_0_0).toLoadRect

/-- One tile of 512 dense rows, from its 256 stored row pairs. -/
def wtile512 (raw : Vec Ideal S1x256x2x128 .bf16) : FVec Ideal S512x128 .bf16 :=
  interleaveRows S512x128
    (shapeCast S256x128 (shapeCast S1x256x128 (rowsOfParity 0 S1x256x1x128 raw bitcasts_S1x256x2x128_w16_S1x256x1x128_w32) shapeCasts_S1x256x1x128_S1x256x128) shapeCasts_S1x256x128_S256x128)
    (shapeCast S256x128 (shapeCast S1x256x128 (rowsOfParity 1 S1x256x1x128 raw bitcasts_S1x256x2x128_w16_S1x256x1x128_w32) shapeCasts_S1x256x1x128_S1x256x128) shapeCasts_S1x256x128_S256x128)
    bitcasts_S512x128_w16_S256x128_w32

theorem wInb512 (b : Fin 48) (r : ℕ) (hr : r + 256 ≤ 1440) : ∀ a, (![b.val, r, 0, 0] : Fin 4 → Nat) a + S1x256x2x128.size a ≤ S48x1440x2x128.size a
  | ⟨0, _⟩ => by show b.val + 1 ≤ 48; omega
  | ⟨1, _⟩ => hr
  | ⟨2, _⟩ => le_rfl
  | ⟨3, _⟩ => le_rfl

/-- Row pairs `r … r + 256` of tile `b`, as the body loads them. -/
def wload512 (arg3 : Memref sig .tc .vmem S48x1440x2x128 .bf16) (harg3 : arg3.IsWhole) (x2 : Vec Ideal S48x1440x2x128 .bf16) (b : Fin 48) (r : ℕ) (hr : r + 256 ≤ 1440) : Vec Ideal S1x256x2x128 .bf16 :=
  View.readAt (Elt Ideal) arg3.view (Rect.unit (s := S48x1440x2x128) ![b.val, r, 0, 0] S1x256x2x128.size (wInb512 b r hr)).toLoadRect (harg3.unread x2)

/-- The forty-eight tiles side by side. -/
def stack512 (f : Fin 48 → FVec Ideal S512x128 .bf16) : FVec Ideal S512x6144 .bf16 :=
  concatenate S512x6144 1 (List.ofFn fun b : Fin 48 => (⟨S512x128, f b⟩ : (s : Shape) × (s.Idx → Elt Ideal .bf16))) concatenates_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x128_S512x6144_d1

/-- The stored block of a stack against the scaled gradients. -/
def outPay512 (st : FVec Ideal S512x6144 .bf16) (dy : Vec Ideal S512x6144 .bf16) : FVec Ideal S1x512x512 .bf16 :=
  shapeCast S1x512x512 (transpose S512x512 [1, 0] (truncf .bf16 (matmul (φ₂ := .bf16) dot_S512x6144_S512x6144_S512x512_1_1_0_0_n_n none st dy (constant S512x512 .f32 0x00000000#32)) bitsLt_bf16_f32) transposes_S512x512_p1_0_S512x512) shapeCasts_S512x512_S1x512x512

/-- One tile of 320 dense rows, from its 160 stored row pairs. -/
def wtile320 (raw : Vec Ideal S1x160x2x128 .bf16) : FVec Ideal S320x128 .bf16 :=
  interleaveRows S320x128
    (shapeCast S160x128 (shapeCast S1x160x128 (rowsOfParity 0 S1x160x1x128 raw bitcasts_S1x160x2x128_w16_S1x160x1x128_w32) shapeCasts_S1x160x1x128_S1x160x128) shapeCasts_S1x160x128_S160x128)
    (shapeCast S160x128 (shapeCast S1x160x128 (rowsOfParity 1 S1x160x1x128 raw bitcasts_S1x160x2x128_w16_S1x160x1x128_w32) shapeCasts_S1x160x1x128_S1x160x128) shapeCasts_S1x160x128_S160x128)
    bitcasts_S320x128_w16_S160x128_w32

theorem wInb320 (b : Fin 48) (r : ℕ) (hr : r + 160 ≤ 1440) : ∀ a, (![b.val, r, 0, 0] : Fin 4 → Nat) a + S1x160x2x128.size a ≤ S48x1440x2x128.size a
  | ⟨0, _⟩ => by show b.val + 1 ≤ 48; omega
  | ⟨1, _⟩ => hr
  | ⟨2, _⟩ => le_rfl
  | ⟨3, _⟩ => le_rfl

/-- Row pairs `r … r + 160` of tile `b`, as the body loads them. -/
def wload320 (arg3 : Memref sig .tc .vmem S48x1440x2x128 .bf16) (harg3 : arg3.IsWhole) (x2 : Vec Ideal S48x1440x2x128 .bf16) (b : Fin 48) (r : ℕ) (hr : r + 160 ≤ 1440) : Vec Ideal S1x160x2x128 .bf16 :=
  View.readAt (Elt Ideal) arg3.view (Rect.unit (s := S48x1440x2x128) ![b.val, r, 0, 0] S1x160x2x128.size (wInb320 b r hr)).toLoadRect (harg3.unread x2)

/-- The forty-eight tiles side by side. -/
def stack320 (f : Fin 48 → FVec Ideal S320x128 .bf16) : FVec Ideal S320x6144 .bf16 :=
  concatenate S320x6144 1 (List.ofFn fun b : Fin 48 => (⟨S320x128, f b⟩ : (s : Shape) × (s.Idx → Elt Ideal .bf16))) concatenates_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x128_S320x6144_d1

/-- The stored block of a stack against the scaled gradients. -/
def outPay320 (st : FVec Ideal S320x6144 .bf16) (dy : Vec Ideal S512x6144 .bf16) : FVec Ideal S1x512x320 .bf16 :=
  shapeCast S1x512x320 (transpose S512x320 [1, 0] (truncf .bf16 (matmul (φ₂ := .bf16) dot_S320x6144_S512x6144_S320x512_1_1_0_0_n_n none st dy (constant S320x512 .f32 0x00000000#32)) bitsLt_bf16_f32) transposes_S320x512_p1_0_S512x320) shapeCasts_S512x320_S1x512x320

theorem oInb (k : Fin 5) : ∀ a, (![0, 0, 512 * k.val] : Fin 3 → Nat) a + S1x512x512.size a ≤ S1x512x2880.size a
  | ⟨0, _⟩ => le_rfl
  | ⟨1, _⟩ => le_rfl
  | ⟨2, _⟩ => by show 512 * k.val + 512 ≤ 2880; omega

/-- The store of output columns `512 k … 512 (k + 1)`. -/
def outPiece (arg3 : Memref sig .tc .vmem S48x1440x2x128 .bf16) (harg3 : arg3.IsWhole) (x2 : Vec Ideal S48x1440x2x128 .bf16) (dy : Vec Ideal S512x6144 .bf16) (k : Fin 5) : View.Piece (Elt Ideal) S1x512x2880 .bf16 :=
  ⟨Rect.unit ![0, 0, 512 * k.val] S1x512x512.size (oInb k), outPay512 (stack512 fun b => wtile512 (wload512 arg3 harg3 x2 b (256 * k.val) (by omega))) dy⟩

/-- The store of the last 320 output columns. -/
def lastPiece (arg3 : Memref sig .tc .vmem S48x1440x2x128 .bf16) (harg3 : arg3.IsWhole) (x2 : Vec Ideal S48x1440x2x128 .bf16) (dy : Vec Ideal S512x6144 .bf16) : View.Piece (Elt Ideal) S1x512x2880 .bf16 :=
  ⟨Rect.unit ![0, 0, 2560] S1x512x320.size inb_S1x512x2880_S1x512x320_0_0_2560, outPay320 (stack320 fun b => wtile320 (wload320 arg3 harg3 x2 b 1280 (by omega))) dy⟩

theorem scratch_eq (c : Dev nD) (arg1 : Memref sig .tc .vmem S1x512x6144 .fp8e5m2) (harg1 : arg1.IsWhole) (arg2 : Memref sig .tc .vmem S1x512x48 .f32) (harg2 : arg2.IsWhole)
    (x0 : Vec Ideal S1x512x6144 .fp8e5m2) (x1 : Vec Ideal S1x512x48 .f32) :
    kernelRun1_A.sl.HS0_48 (F := Ideal) c arg1 harg1 arg2 harg2 x0 x1 = dyPieces arg1 harg1 arg2 harg2 x0 x1 := by
  chain_rfl

theorem stores_eq (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole)
    (x0 : Vec Ideal S1x512x6144 .fp8e5m2) (x1 : Vec Ideal S1x512x48 .f32) (x2 : Vec Ideal S48x1440x2x128 .bf16) :
    (kernelRun1_A (F := Ideal) c i arg1 harg1 arg2 harg2 arg3 harg3 arg4 harg4 arg5 harg5 x0 x1 x2).1
      = lastPiece arg3 harg3 x2 (dyRead arg1 harg1 arg2 harg2 arg5 x0 x1)
        :: List.ofFn fun k : Fin 5 => outPiece arg3 harg3 x2 (dyRead arg1 harg1 arg2 harg2 arg5 x0 x1) k.rev := by
  chain_rfl

end Cert.KernelIdeal.Own

end
-- ==== Proof.MatmulValue.lean ====
/- The matmul kernel's output block: every element is the contraction of a row of scaled gradients with a column of the
   dense weights. -/
module

public import proofs.«01_k».proof.Proof.MatmulPieces
public import Idealize.ShloMosaic.Lib.VecWindow
public import Idealize.ShloMosaic.Lib.WholeRead
public import Idealize.ShloMosaic.Lib.Pointwise
public import Idealize.ShloMosaic.Lib.Pipeline.ValueKit

@[expose] public section

set_option maxRecDepth 16384

noncomputable section

namespace Cert.KernelIdeal.Own

open Idealize.ShloMosaic Idealize.ShloMosaic.TcCoe Idealize.SL.Sem
open Cert.KernelIdeal Cert.KernelIdeal.Gen

/-! ## The scaled gradients -/

theorem dyTile_at (b : Fin 48) (v0 : Vec Ideal S1x512x48 .f32) (v3 : Vec Ideal S1x512x128 .fp8e5m2) (s : Fin 512) (l : Fin 128) :
    dyTile b v0 v3 (ix2 s l) = v3 (ix3 0 s l) * v0 (ix3 0 s b) := by
  pointwise [dyTile, k1_pay4]

/-- The scaled gradients of a block of codes `x0` and scales `x1`. -/
def dyOf (x0 : Vec Ideal S1x512x6144 .fp8e5m2) (x1 : Vec Ideal S1x512x48 .f32) (s : Fin 512) (o : Fin 6144) : EReal := x0 (ix3 0 s o) * x1 (ix3 0 s ⟨o / 128, by omega⟩)

/-- The same, at an index of the scratch. -/
def dyAt (x0 : Vec Ideal S1x512x6144 .fp8e5m2) (x1 : Vec Ideal S1x512x48 .f32) (z : S512x6144.Idx) : EReal := dyOf x0 x1 (z 0) (z 1)

theorem load_codes (arg1 : Memref sig .tc .vmem S1x512x6144 .fp8e5m2) (harg1 : arg1.IsWhole) (x0 : Vec Ideal S1x512x6144 .fp8e5m2) (b : Fin 48) (s : Fin 512) (l : Fin 128) :
    (View.readAt (Elt Ideal) arg1.view (Rect.unit (s := S1x512x6144) ![0, 0, 128 * b.val] S1x512x128.size (cInb b)).toLoadRect (harg1.unread x0) : Vec Ideal S1x512x128 .fp8e5m2) (ix3 0 s l)
      = x0 (ix3 0 s ⟨128 * b + l, by omega⟩) := by
  refine (Memref.IsWhole.readAt_unread harg1 x0 _ _).trans (congrArg x0 (funext fun a => Fin.ext ?_))
  match a with
  | ⟨0, _⟩ => rfl
  | ⟨1, _⟩ => show 0 + 1 * s.val = s.val; omega
  | ⟨2, _⟩ => show 128 * b.val + 1 * l.val = 128 * b.val + l.val; omega

theorem dyRect_emb (b : Fin 48) (s : Fin 512) (l : Fin 128) :
    (Rect.unit (s := S512x6144) ![0, 128 * b.val] S512x128.size (dInb b)).emb (ix2 s l : S512x128.Idx) = (ix2 s ⟨128 * b + l, by omega⟩ : S512x6144.Idx) := by
  refine funext fun a => Fin.ext ?_
  match a with
  | ⟨0, _⟩ => show 0 + 1 * s.val = s.val; omega
  | ⟨1, _⟩ => show 128 * b.val + 1 * l.val = 128 * b.val + l.val; omega

theorem dyRead_at (arg1 : Memref sig .tc .vmem S1x512x6144 .fp8e5m2) (harg1 : arg1.IsWhole) (arg2 : Memref sig .tc .vmem S1x512x48 .f32) (harg2 : arg2.IsWhole) (arg5 : Memref sig .tc .vmem S512x6144 .bf16) (x0 : Vec Ideal S1x512x6144 .fp8e5m2) (x1 : Vec Ideal S1x512x48 .f32) (s : Fin 512) (o : Fin 6144) :
    dyRead arg1 harg1 arg2 harg2 arg5 x0 x1 (ix2 s o) = x0 (ix3 0 s o) * x1 (ix3 0 s ⟨o / 128, by omega⟩) := by
  show arg5.view.readAt (Elt Ideal) (Rect.unit ![0, 0] S512x6144.size inb_S512x6144_S512x6144_0_0).toLoadRect (arg5.view.writes (Elt Ideal) arg5.view.junk (dyPieces arg1 harg1 arg2 harg2 x0 x1)) (ix2 s o) = _
  rw [View.readAt_full]
  show _ = dyAt x0 x1 (ix2 s o)
  refine View.read_writes_apply_of_pieces (Val := Elt Ideal) arg5.view _ (dyAt x0 x1) _ (fun p hp x => ?_) (ix2 s o : S512x6144.Idx) ?_
  · obtain ⟨k, rfl⟩ := List.mem_ofFn.mp hp
    generalize k.rev = b at x ⊢
    obtain ⟨s, l, rfl⟩ : ∃ (s : Fin 512) (l : Fin 128), x = (ix2 s l : S512x128.Idx) :=
      ⟨x 0, x 1, by funext d; match d with | ⟨0, _⟩ => rfl | ⟨1, _⟩ => rfl⟩
    refine Eq.trans ?_ (congrArg (dyAt x0 x1) (dyRect_emb b s l)).symm
    refine (dyTile_at b _ _ s l).trans ?_
    rw [load_codes, View.readAt_full, harg2.read_unread]
    have e : (⟨(128 * b + l : ℕ) / 128, by omega⟩ : Fin 48) = b := Fin.ext (by show (128 * b.val + l.val) / 128 = b.val; omega)
    show _ = x0 (ix3 0 s ⟨128 * b + l, by omega⟩) * x1 (ix3 0 s (⟨(128 * b + l : ℕ) / 128, by omega⟩ : Fin 48))
    rw [e]
  · refine ⟨dyPiece arg1 harg1 arg2 harg2 x0 x1 ⟨o / 128, by omega⟩, List.mem_ofFn.mpr ⟨Fin.rev ⟨o / 128, by omega⟩, by rw [Fin.rev_rev]⟩, ?_⟩
    have e := dyRect_emb ⟨o / 128, by omega⟩ s ⟨o % 128, by omega⟩
    have e' : (ix2 s ⟨128 * (⟨o / 128, by omega⟩ : Fin 48) + (⟨o % 128, by omega⟩ : Fin 128), by show 128 * (o.val / 128) + o.val % 128 < 6144; omega⟩ : S512x6144.Idx) = ix2 s o :=
      congrArg (fun t => (ix2 s t : S512x6144.Idx)) (Fin.ext (by show 128 * (o.val / 128) + o.val % 128 = o.val; omega))
    rw [← e', ← e]
    exact LoadRect.idx_mem _ _

/-! ## The weight tiles and the products -/

theorem wtile512_at (raw : Vec Ideal S1x256x2x128 .bf16) (r : Fin 512) (l : Fin 128) :
    wtile512 raw (ix2 r l) = raw (ix4 0 ⟨r / 2, by omega⟩ ⟨r % 2, by omega⟩ l) := by
  rcases Nat.mod_two_eq_zero_or_one r.val with h | h
  · pointwise [wtile512]
    rw [if_pos h]
    refine congrArg raw (funext fun a => Fin.ext ?_)
    match a with
    | ⟨0, _⟩ => rfl
    | ⟨1, _⟩ => rfl
    | ⟨2, _⟩ => exact h.symm
    | ⟨3, _⟩ => rfl
  · pointwise [wtile512]
    rw [if_neg (by omega)]
    refine congrArg raw (funext fun a => Fin.ext ?_)
    match a with
    | ⟨0, _⟩ => rfl
    | ⟨1, _⟩ => rfl
    | ⟨2, _⟩ => exact h.symm
    | ⟨3, _⟩ => rfl

theorem wload512_at (arg3 : Memref sig .tc .vmem S48x1440x2x128 .bf16) (harg3 : arg3.IsWhole) (x2 : Vec Ideal S48x1440x2x128 .bf16) (b : Fin 48) (r0 : ℕ) (hr : r0 + 256 ≤ 1440)
    (r : Fin 256) (q : Fin 2) (l : Fin 128) :
    wload512 arg3 harg3 x2 b r0 hr (ix4 0 r q l) = x2 (ix4 b ⟨r0 + r, by omega⟩ q l) := by
  unfold wload512
  refine (Memref.IsWhole.readAt_unread harg3 x2 _ _).trans (congrArg x2 (funext fun a => Fin.ext ?_))
  match a with
  | ⟨0, _⟩ => show b.val + 1 * 0 = b.val; omega
  | ⟨1, _⟩ => show r0 + 1 * r.val = r0 + r.val; omega
  | ⟨2, _⟩ => show 0 + 1 * q.val = q.val; omega
  | ⟨3, _⟩ => show 0 + 1 * l.val = l.val; omega

theorem stack512_at (f : Fin 48 → FVec Ideal S512x128 .bf16) (r : Fin 512) (o : Fin 6144) :
    stack512 f (ix2 r o) = f ⟨o / 128, by omega⟩ (ix2 r ⟨o % 128, by omega⟩) := by
  unfold stack512
  refine concatenate_ofFn_apply (1 : Fin S512x6144.rank) f _ rfl 128 rfl (ix2 r o : S512x6144.Idx) ⟨o / 128, by omega⟩ rfl (ix2 r ⟨o % 128, by omega⟩ : S512x128.Idx) rfl ?_
  intro b hb
  match b with
  | ⟨0, _⟩ => rfl
  | ⟨1, _⟩ => exact absurd rfl hb

theorem outPay512_at (st : FVec Ideal S512x6144 .bf16) (dy : Vec Ideal S512x6144 .bf16) (s : Fin 512) (i : Fin 512) :
    outPay512 st dy (ix3 0 s i) = ∑ o : Fin 6144, st (ix2 i o) * dy (ix2 s o) := by
  pointwise [outPay512]

theorem wtile320_at (raw : Vec Ideal S1x160x2x128 .bf16) (r : Fin 320) (l : Fin 128) :
    wtile320 raw (ix2 r l) = raw (ix4 0 ⟨r / 2, by omega⟩ ⟨r % 2, by omega⟩ l) := by
  rcases Nat.mod_two_eq_zero_or_one r.val with h | h
  · pointwise [wtile320]
    rw [if_pos h]
    refine congrArg raw (funext fun a => Fin.ext ?_)
    match a with
    | ⟨0, _⟩ => rfl
    | ⟨1, _⟩ => rfl
    | ⟨2, _⟩ => exact h.symm
    | ⟨3, _⟩ => rfl
  · pointwise [wtile320]
    rw [if_neg (by omega)]
    refine congrArg raw (funext fun a => Fin.ext ?_)
    match a with
    | ⟨0, _⟩ => rfl
    | ⟨1, _⟩ => rfl
    | ⟨2, _⟩ => exact h.symm
    | ⟨3, _⟩ => rfl

theorem wload320_at (arg3 : Memref sig .tc .vmem S48x1440x2x128 .bf16) (harg3 : arg3.IsWhole) (x2 : Vec Ideal S48x1440x2x128 .bf16) (b : Fin 48) (r0 : ℕ) (hr : r0 + 160 ≤ 1440)
    (r : Fin 160) (q : Fin 2) (l : Fin 128) :
    wload320 arg3 harg3 x2 b r0 hr (ix4 0 r q l) = x2 (ix4 b ⟨r0 + r, by omega⟩ q l) := by
  unfold wload320
  refine (Memref.IsWhole.readAt_unread harg3 x2 _ _).trans (congrArg x2 (funext fun a => Fin.ext ?_))
  match a with
  | ⟨0, _⟩ => show b.val + 1 * 0 = b.val; omega
  | ⟨1, _⟩ => show r0 + 1 * r.val = r0 + r.val; omega
  | ⟨2, _⟩ => show 0 + 1 * q.val = q.val; omega
  | ⟨3, _⟩ => show 0 + 1 * l.val = l.val; omega

theorem stack320_at (f : Fin 48 → FVec Ideal S320x128 .bf16) (r : Fin 320) (o : Fin 6144) :
    stack320 f (ix2 r o) = f ⟨o / 128, by omega⟩ (ix2 r ⟨o % 128, by omega⟩) := by
  unfold stack320
  refine concatenate_ofFn_apply (1 : Fin S320x6144.rank) f _ rfl 128 rfl (ix2 r o : S320x6144.Idx) ⟨o / 128, by omega⟩ rfl (ix2 r ⟨o % 128, by omega⟩ : S320x128.Idx) rfl ?_
  intro b hb
  match b with
  | ⟨0, _⟩ => rfl
  | ⟨1, _⟩ => exact absurd rfl hb

theorem outPay320_at (st : FVec Ideal S320x6144 .bf16) (dy : Vec Ideal S512x6144 .bf16) (s : Fin 512) (i : Fin 320) :
    outPay320 st dy (ix3 0 s i) = ∑ o : Fin 6144, st (ix2 i o) * dy (ix2 s o) := by
  pointwise [outPay320]

/-! ## The output block -/

/-- The output block of a block of codes `x0`, scales `x1` and the dense weights `x2`, at token `s` and column `i`. -/
def prod (x0 : Vec Ideal S1x512x6144 .fp8e5m2) (x1 : Vec Ideal S1x512x48 .f32) (x2 : Vec Ideal S48x1440x2x128 .bf16) (s : Fin 512) (i : Fin 2880) : EReal :=
  ∑ o : Fin 6144, x2 (ix4 ⟨o / 128, by omega⟩ ⟨i / 2, by omega⟩ ⟨i % 2, by omega⟩ ⟨o % 128, by omega⟩) * (x0 (ix3 0 s o) * x1 (ix3 0 s ⟨o / 128, by omega⟩))

/-- The same, at an index of the block. -/
def prodAt (x0 : Vec Ideal S1x512x6144 .fp8e5m2) (x1 : Vec Ideal S1x512x48 .f32) (x2 : Vec Ideal S48x1440x2x128 .bf16) (z : S1x512x2880.Idx) : EReal :=
  prod x0 x1 x2 (z 1) (z 2)

theorem outRect_emb (k : Fin 5) (s : Fin 512) (i : Fin 512) :
    (Rect.unit (s := S1x512x2880) ![0, 0, 512 * k.val] S1x512x512.size (oInb k)).emb (ix3 0 s i : S1x512x512.Idx) = (ix3 0 s ⟨512 * k + i, by omega⟩ : S1x512x2880.Idx) := by
  refine funext fun a => Fin.ext ?_
  match a with
  | ⟨0, _⟩ => rfl
  | ⟨1, _⟩ => show 0 + 1 * s.val = s.val; omega
  | ⟨2, _⟩ => show 512 * k.val + 1 * i.val = 512 * k.val + i.val; omega

theorem lastRect_emb (s : Fin 512) (i : Fin 320) :
    (Rect.unit (s := S1x512x2880) ![0, 0, 2560] S1x512x320.size inb_S1x512x2880_S1x512x320_0_0_2560).emb (ix3 0 s i : S1x512x320.Idx) = (ix3 0 s ⟨2560 + i, by omega⟩ : S1x512x2880.Idx) := by
  refine funext fun a => Fin.ext ?_
  match a with
  | ⟨0, _⟩ => rfl
  | ⟨1, _⟩ => show 0 + 1 * s.val = s.val; omega
  | ⟨2, _⟩ => show 2560 + 1 * i.val = 2560 + i.val; omega

theorem outPiece_at (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole) (x0 : Vec Ideal S1x512x6144 .fp8e5m2) (x1 : Vec Ideal S1x512x48 .f32) (x2 : Vec Ideal S48x1440x2x128 .bf16) (k : Fin 5) (s : Fin 512) (i : Fin 512) :
    outPay512 (stack512 fun b => wtile512 (wload512 arg3 harg3 x2 b (256 * k.val) (by omega))) (dyRead arg1 harg1 arg2 harg2 arg5 x0 x1) (ix3 0 s i)
      = prod x0 x1 x2 s ⟨512 * k + i, by omega⟩ := by
  rw [outPay512_at]
  unfold prod
  refine Finset.sum_congr rfl fun o _ => ?_
  rw [stack512_at, wtile512_at, wload512_at, dyRead_at]
  refine congrArg (· * _) (congrArg x2 (funext fun a => Fin.ext ?_))
  match a with
  | ⟨0, _⟩ => rfl
  | ⟨1, _⟩ => show 256 * k.val + i.val / 2 = (512 * k.val + i.val) / 2; omega
  | ⟨2, _⟩ => show i.val % 2 = (512 * k.val + i.val) % 2; omega
  | ⟨3, _⟩ => rfl

theorem lastPiece_at (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole) (x0 : Vec Ideal S1x512x6144 .fp8e5m2) (x1 : Vec Ideal S1x512x48 .f32) (x2 : Vec Ideal S48x1440x2x128 .bf16) (s : Fin 512) (i : Fin 320) :
    outPay320 (stack320 fun b => wtile320 (wload320 arg3 harg3 x2 b 1280 (by omega))) (dyRead arg1 harg1 arg2 harg2 arg5 x0 x1) (ix3 0 s i)
      = prod x0 x1 x2 s ⟨2560 + i, by omega⟩ := by
  rw [outPay320_at]
  unfold prod
  refine Finset.sum_congr rfl fun o _ => ?_
  rw [stack320_at, wtile320_at, wload320_at, dyRead_at]
  refine congrArg (· * _) (congrArg x2 (funext fun a => Fin.ext ?_))
  match a with
  | ⟨0, _⟩ => rfl
  | ⟨1, _⟩ => show 1280 + i.val / 2 = (2560 + i.val) / 2; omega
  | ⟨2, _⟩ => show i.val % 2 = (2560 + i.val) % 2; omega
  | ⟨3, _⟩ => rfl

/-- What the body leaves in its output block. -/
theorem out1_at (c : Dev nD) (i : grid1.Coords) (arg1 : Memref sig .tc .vmem S1x512x6144 .fp8e5m2) (harg1 : arg1.IsWhole) (arg2 : Memref sig .tc .vmem S1x512x48 .f32) (harg2 : arg2.IsWhole) (arg3 : Memref sig .tc .vmem S48x1440x2x128 .bf16) (harg3 : arg3.IsWhole) (arg4 : Memref sig .tc .vmem S1x512x2880 .bf16) (harg4 : arg4.IsWhole) (arg5 : Memref sig .tc .vmem S512x6144 .bf16) (harg5 : arg5.IsWhole) (x0 : Vec Ideal S1x512x6144 .fp8e5m2) (x1 : Vec Ideal S1x512x48 .f32) (x2 : Vec Ideal S48x1440x2x128 .bf16) (y : S1x512x2880.Idx) :
    out1_A_3 (F := Ideal) c i arg1 harg1 arg2 harg2 arg3 harg3 arg4 harg4 arg5 harg5 x0 x1 x2 y = prodAt x0 x1 x2 y := by
  unfold out1_A_3
  refine View.read_writes_apply_of_pieces VO1_3 _ (prodAt x0 x1 x2) _ (fun p hp x => ?_) y
    (cover1_A_3 (F := Ideal) c i arg1 harg1 arg2 harg2 arg3 harg3 arg4 harg4 arg5 harg5 x0 x1 x2 y)
  rw [stores_eq] at hp
  rcases List.mem_cons.mp hp with rfl | hp
  · obtain ⟨a, s, j, rfl⟩ : ∃ (a : Fin 1) (s : Fin 512) (j : Fin 320), x = (ix3 a s j : S1x512x320.Idx) :=
      ⟨x 0, x 1, x 2, by funext d; match d with | ⟨0, _⟩ => rfl | ⟨1, _⟩ => rfl | ⟨2, _⟩ => rfl⟩
    rw [show a = 0 from Subsingleton.elim _ _]
    refine Eq.trans ?_ (congrArg (prodAt x0 x1 x2) (lastRect_emb s j)).symm
    exact lastPiece_at arg1 harg1 arg2 harg2 arg3 harg3 arg4 harg4 arg5 harg5 x0 x1 x2 s j
  · obtain ⟨k, rfl⟩ := List.mem_ofFn.mp hp
    generalize k.rev = k at x ⊢
    obtain ⟨a, s, j, rfl⟩ : ∃ (a : Fin 1) (s : Fin 512) (j : Fin 512), x = (ix3 a s j : S1x512x512.Idx) :=
      ⟨x 0, x 1, x 2, by funext d; match d with | ⟨0, _⟩ => rfl | ⟨1, _⟩ => rfl | ⟨2, _⟩ => rfl⟩
    rw [show a = 0 from Subsingleton.elim _ _]
    refine Eq.trans ?_ (congrArg (prodAt x0 x1 x2) (outRect_emb k s j)).symm
    exact outPiece_at arg1 harg1 arg2 harg2 arg3 harg3 arg4 harg4 arg5 harg5 x0 x1 x2 k s j

end Cert.KernelIdeal.Own

end
-- ==== Proof.MatmulArr.lean ====
/- The result array after the matmul pipeline. -/
module

public import proofs.«01_k».proof.Proof.MatmulValue

@[expose] public section

set_option maxRecDepth 16384

noncomputable section

namespace Cert.KernelIdeal.Own

open Idealize.ShloMosaic Idealize.ShloMosaic.TcCoe Idealize.SL.Sem
open Cert.KernelIdeal Cert.KernelIdeal.Gen

/-- The product of the scaled gradients (codes `C`, scales `D`) with the dense weights `B`. -/
def result (C : Vec Ideal S24x512x6144 .fp8e5m2) (D : Vec Ideal S24x512x48 .f32) (B : Vec Ideal S48x1440x2x128 .bf16) (b : Fin 24) (s : Fin 512) (i : Fin 2880) : EReal :=
  ∑ o : Fin 6144, B (ix4 ⟨o / 128, by omega⟩ ⟨i / 2, by omega⟩ ⟨i % 2, by omega⟩ ⟨o % 128, by omega⟩) * (C (ix3 b s o) * D (ix3 b s ⟨o / 128, by omega⟩))

/-- The same, at an index of the array. -/
def resultAt (C : Vec Ideal S24x512x6144 .fp8e5m2) (D : Vec Ideal S24x512x48 .f32) (B : Vec Ideal S48x1440x2x128 .bf16) (z : S24x512x2880.Idx) : EReal :=
  result C D B (z 0) (z 1) (z 2)

theorem idx1 : ∀ t : Fin cfg1.N, win1_0.index t = ![t.val, 0, 0] ∧ win1_1.index t = ![t.val, 0, 0] ∧ win1_2.index t = ![0, 0, 0, 0]
    ∧ win1_3.index t = ![t.val, 0, 0] :=
  (by decide +kernel : ∀ t : Fin grid1.N, win1_0.index t = ![t.val, 0, 0] ∧ win1_1.index t = ![t.val, 0, 0] ∧ win1_2.index t = ![0, 0, 0, 0]
    ∧ win1_3.index t = ![t.val, 0, 0])

theorem N1 : cfg1.N = 24 := by decide +kernel

theorem lt1 (t : Fin cfg1.N) : t.val < 24 := Nat.lt_of_lt_of_eq t.isLt N1

variable (V : (c : Dev nD) → (b : Ref sig .tc) → Buf (Elt Ideal) ((c : Thread nD τ).loc b)) (c : Dev nD)

theorem codes_block (t : Fin cfg1.N) (s : Fin 512) (o : Fin 6144) :
    (iblk1 V c 0 t : Vec Ideal S1x512x6144 .fp8e5m2) (ix3 0 s o) = (V c main_arg0 : Vec Ideal S24x512x6144 .fp8e5m2) (ix3 ⟨t, lt1 t⟩ s o) := by
  blk_ext [iblk1, idx1 t]

theorem scales_block (t : Fin cfg1.N) (s : Fin 512) (b : Fin 48) :
    (iblk1 V c 1 t : Vec Ideal S1x512x48 .f32) (ix3 0 s b) = (V c main_arg1 : Vec Ideal S24x512x48 .f32) (ix3 ⟨t, lt1 t⟩ s b) := by
  blk_ext [iblk1, idx1 t]

theorem weights_block (t : Fin cfg1.N) (b : Fin 48) (r : Fin 1440) (q : Fin 2) (l : Fin 128) :
    (iblk1 V c 2 t : Vec Ideal S48x1440x2x128 .bf16) (ix4 b r q l) = (V c main_v1 : Vec Ideal S48x1440x2x128 .bf16) (ix4 b r q l) := by
  blk_ext [iblk1, idx1 t]

theorem prod_eq (t : Fin cfg1.N) (s : Fin 512) (i : Fin 2880) :
    prod (iblk1 V c 0 t) (iblk1 V c 1 t) (iblk1 V c 2 t) s i = result (V c main_arg0) (V c main_arg1) (V c main_v1) ⟨t, lt1 t⟩ s i := by
  unfold prod result
  refine Finset.sum_congr rfl fun o _ => ?_
  rw [codes_block V c t, scales_block V c t, weights_block V c t]

theorem out_emb (t : Fin cfg1.N) (y : S1x512x2880.Idx) :
    (win1_3.blk t).view.emb y = (ix3 ⟨t, lt1 t⟩ (y 1) (y 2) : S24x512x2880.Idx) := by
  blk_ext [idx1 t]

/-- The matmul pipeline's result. -/
theorem final1 : (dat1 V c).arrAt 3 cfg1.N = resultAt (V c main_arg0) (V c main_arg1) (V c main_v1) := by
  refine (dat1 V c).arrAt_eq_of_covers 3 _ (by decide +kernel) fun t hf y => ?_
  blk_simp
  rw [after1_3]
  unfold outsAt1
  refine (out1_at c _ _ _ _ _ _ _ _ _ _ _ (iblk1 V c 0 t) (iblk1 V c 1 t) (iblk1 V c 2 t) y).trans ?_
  refine Eq.trans ?_ (congrArg (resultAt (V c main_arg0) (V c main_arg1) (V c main_v1)) (out_emb t y)).symm
  exact prod_eq V c t (y 1) (y 2)

end Cert.KernelIdeal.Own

end
-- ==== Proof.RefRun.lean ====
/- The reference's run with the value of its result: the composed term of its operations over the argument arrays, and
   that term read at an index. -/
module

public import proofs.«01_k».proof.Proof.Gen.ReferenceIdeal.Frame
public import Idealize.ShloMosaic.Lib.Claim
public import Idealize.ShloMosaic.Lib.Pointwise
public import Idealize.ShloMosaic.Lib.Pipeline.ValueKit
public import Idealize.ShloMosaic.PureOps.Ideal

@[expose] public section

set_option maxRecDepth 16384

noncomputable section

namespace Cert.ReferenceIdeal.Own

open Idealize.ShloMosaic Idealize.ShloMosaic.TcCoe Idealize.SL.Sem
open Cert.ReferenceIdeal Cert.ReferenceIdeal.Gen

/-- The kept positions: metadata word shifted by twice the entry's number, its low two bits, as [row, group, entry]. -/
def refPos (W : IVec S6144x90 32) : IVec S6144x720x2 32 :=
  shapeCast S6144x720x2
    (andi
      (Host.shrsi
        (broadcastInDim S6144x90x16 ![0, 1, 2] bcast_S6144x90x1_S6144x90x16_0_1_2
          (broadcastInDim S6144x90x1 ![0, 1] bcast_S6144x90_S6144x90x1_0_1 W))
        (broadcastInDim S6144x90x16 ![0, 1, 2] bcast_S1x1x16_S6144x90x16_0_1_2
          (broadcastInDim S1x1x16 ![2] bcast_S16_S1x1x16_2
            (muli (broadcastInDim S16 ![] bcast_S_S16 (constantI S_ 32 2#32)) (iotaInDim S16 32 0)))))
      (broadcastInDim S6144x90x16 ![] bcast_S_S6144x90x16 (constantI S_ 32 3#32)))
    shapeCasts_S6144x90x16_S6144x720x2

/-- The dense weight: per slot of a group the sum over the kept values of those whose position is the slot, scaled. -/
def refW (V : FVec Ideal S6144x1440 .bf16) (W : IVec S6144x90 32) (S : FVec Ideal S6144 .f32) : FVec Ideal S6144x2880 .bf16 :=
  mulf
    (shapeCast S6144x2880
      (truncf FTy.bf16
        (Host.reduceAdd
          (extf FTy.f32
            (select
              (cmpi CmpIPredicate.eq
                (broadcastInDim S6144x720x2x4 ![0, 1, 2, 3] bcast_S6144x720x2x1_S6144x720x2x4_0_1_2_3
                  (broadcastInDim S6144x720x2x1 ![0, 1, 2] bcast_S6144x720x2_S6144x720x2x1_0_1_2 (refPos W)))
                (broadcastInDim S6144x720x2x4 ![0, 1, 2, 3] bcast_S1x1x1x4_S6144x720x2x4_0_1_2_3
                  (broadcastInDim S1x1x1x4 ![3] bcast_S4_S1x1x1x4_3 (iotaInDim S4 32 0))))
              (broadcastInDim S6144x720x2x4 ![0, 1, 2, 3] bcast_S6144x720x2x1_S6144x720x2x4_0_1_2_3
                (broadcastInDim S6144x720x2x1 ![0, 1, 2] bcast_S6144x720x2_S6144x720x2x1_0_1_2
                  (shapeCast S6144x720x2 V shapeCasts_S6144x1440_S6144x720x2)))
              (broadcastInDim S6144x720x2x4 ![] bcast_S_S6144x720x2x4 (constant S_ FTy.bf16 0#16)))
            bitsLt_bf16_f32)
          (constant S_ FTy.f32 0#32) reducesTo_S6144x720x2x4_S6144x720x4_d2 h_S_)
        bitsLt_bf16_f32)
      shapeCasts_S6144x720x4_S6144x2880)
    (broadcastInDim S6144x2880 ![0, 1] bcast_S6144x1_S6144x2880_0_1
      (broadcastInDim S6144x1 ![0] bcast_S6144_S6144x1_0 (truncf FTy.bf16 S bitsLt_bf16_f32)))

/-- The gradient: codes times the scale of their block of 128 columns. -/
def refDy (C : FVec Ideal S24x512x6144 .bf16) (D : FVec Ideal S24x512x48 .f32) : FVec Ideal S24x512x6144 .bf16 :=
  shapeCast S24x512x6144
    (mulf
      (shapeCast S24x512x48x128 C shapeCasts_S24x512x6144_S24x512x48x128)
      (broadcastInDim S24x512x48x128 ![0, 1, 2, 3] bcast_S24x512x48x1_S24x512x48x128_0_1_2_3
        (broadcastInDim S24x512x48x1 ![0, 1, 2] bcast_S24x512x48_S24x512x48x1_0_1_2
          (truncf FTy.bf16 D bitsLt_bf16_f32))))
    shapeCasts_S24x512x48x128_S24x512x6144

/-- The reference's result. -/
def REF (C : FVec Ideal S24x512x6144 .bf16) (D : FVec Ideal S24x512x48 .f32) (V : FVec Ideal S6144x1440 .bf16)
    (W : IVec S6144x90 32) (S : FVec Ideal S6144 .f32) : FVec Ideal S24x512x2880 .bf16 :=
  truncf FTy.bf16
    (Host.dotGeneral dot_S24x512x6144_S6144x2880_S24x512x2880_2_0_01_1_n_n none (refDy C D) (refW V W S)) bitsLt_bf16_f32

theorem refPos_at (W : IVec S6144x90 32) (o : Fin 6144) (g : Fin 720) (k : Fin 2) :
    refPos W (ix3 o g k) = IntOp.andi (IntOp.shrsi .host (W (ix2 o ⟨g / 8, by omega⟩)) (IntOp.muli (2#32) (BitVec.ofNat 32 (g % 8 * 2 + k)))) 3#32 := by
  pointwise [refPos]

theorem refW_at (V : FVec Ideal S6144x1440 .bf16) (W : IVec S6144x90 32) (S : FVec Ideal S6144 .f32) (o : Fin 6144) (i : Fin 2880) :
    refW V W S (ix2 o i)
      = (∑ k : Fin 2, Scalar.select (IntOp.cmpi .eq (refPos W (ix3 o ⟨i / 4, by omega⟩ k)) (BitVec.ofNat 32 (i % 4)))
          (show EReal from V (ix2 o ⟨i / 4 * 2 + k, by omega⟩)) 0) * (show EReal from S (ix1 o)) := by
  pointwise [refW]

theorem refDy_at (C : FVec Ideal S24x512x6144 .bf16) (D : FVec Ideal S24x512x48 .f32) (b : Fin 24) (s : Fin 512) (o : Fin 6144) :
    refDy C D (ix3 b s o) = C (ix3 b s o) * D (ix3 b s ⟨o / 128, by omega⟩) := by
  pointwise [refDy]

theorem REF_at (C : FVec Ideal S24x512x6144 .bf16) (D : FVec Ideal S24x512x48 .f32) (V : FVec Ideal S6144x1440 .bf16)
    (W : IVec S6144x90 32) (S : FVec Ideal S6144 .f32) (b : Fin 24) (s : Fin 512) (i : Fin 2880) :
    REF C D V W S (ix3 b s i) = ∑ o : Fin 6144, refDy C D (ix3 b s o) * refW V W S (ix2 o i) := by
  pointwise [REF]

theorem idx0 : ∀ t : Fin cfg0.N, win0_0.index t = ![0, 0, 0] ∧ win0_1.index t = ![0, 0] :=
  (by decide +kernel : ∀ t : Fin grid0.N, _)

theorem arr_codes (m : (ℓ : Loc nD τ sig) → Buf (Elt Ideal) ℓ) (c : Dev nD) :
    (dats m 0 c).arrAt 2 (cfgs 0).N = m ((c.tc : Thread nD τ).loc main_arg0) := by
  refine (dats m 0 c).arrAt_eq_of_after_last 2 t0_0 (by decide +kernel) _ fun j => ?_
  blk_simp
  rw [after0_2]; frame_out
  pointwise [k0_pay1]
  blk_point [iblk, V, idx0 t0_0]

theorem arr_vals (m : (ℓ : Loc nD τ sig) → Buf (Elt Ideal) ℓ) (c : Dev nD) :
    (dats m 0 c).arrAt 3 (cfgs 0).N = m ((c.tc : Thread nD τ).loc main_arg2) := by
  refine (dats m 0 c).arrAt_eq_of_after_last 3 t0_0 (by decide +kernel) _ fun j => ?_
  blk_simp
  rw [after0_3]; frame_out
  pointwise [k0_pay2]
  blk_point [iblk, V, idx0 t0_0]

theorem tail_value (m : (ℓ : Loc nD τ sig) → Buf (Elt Ideal) ℓ) (c : Dev nD) :
    Pipeline.afterTail₀ cfgs (dats m) 0 (V0 m) [hostOps1, hostOps1_1, hostOps1_2] c main_v36
      = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  simp only [hostOps1, hostOps1_1, hostOps1_2, List.flatten_cons, List.flatten_nil, List.append_nil, List.cons_append, List.nil_append]
  after_results_simp
  have e0 : Pipeline.withArrays (cfgs 0).spec c (V0 m c) (fun w => (dats m 0 c).arrAt w (cfgs 0).N) (Proc.tc.devRef main_v0_0)
      = m ((c.tc : Thread nD τ).loc main_arg0) :=
    (Pipeline.withArrays_arr spec0 launch0.win.arr_inj c _ _ 2).trans (arr_codes m c)
  have e1 : Pipeline.withArrays (cfgs 0).spec c (V0 m c) (fun w => (dats m 0 c).arrAt w (cfgs 0).N) (Proc.tc.devRef main_v0_1)
      = m ((c.tc : Thread nD τ).loc main_arg2) :=
    (Pipeline.withArrays_arr spec0 launch0.win.arr_inj c _ _ 3).trans (arr_vals m c)
  have e2 : Pipeline.withArrays (cfgs 0).spec c (V0 m c) (fun w => (dats m 0 c).arrAt w (cfgs 0).N) (Proc.tc.devRef main_arg1)
      = m ((c.tc : Thread nD τ).loc main_arg1) :=
    Pipeline.withArrays_of_ne _ c (V0 m c) _ main_arg1 (by exact (by decide : ∀ w, Pipeline.arrRef spec0 w ≠ main_arg1))
  have e3 : Pipeline.withArrays (cfgs 0).spec c (V0 m c) (fun w => (dats m 0 c).arrAt w (cfgs 0).N) (Proc.tc.devRef main_arg3)
      = m ((c.tc : Thread nD τ).loc main_arg3) :=
    Pipeline.withArrays_of_ne _ c (V0 m c) _ main_arg3 (by exact (by decide : ∀ w, Pipeline.arrRef spec0 w ≠ main_arg3))
  have e4 : Pipeline.withArrays (cfgs 0).spec c (V0 m c) (fun w => (dats m 0 c).arrAt w (cfgs 0).N) (Proc.tc.devRef main_arg4)
      = m ((c.tc : Thread nD τ).loc main_arg4) :=
    Pipeline.withArrays_of_ne _ c (V0 m c) _ main_arg4 (by exact (by decide : ∀ w, Pipeline.arrRef spec0 w ≠ main_arg4))
  rw [e0, e1, e2, e3, e4]
  rfl

/-- The reference runs and ends with the composed term in its result array, the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v36)
        = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from Cert.ReferenceIdeal.Gen.run_main m g
  · exact tail_value m c
  · exact W_main_arg1 m (dats m) c
  · exact W_main_arg3 m (dats m) c
  · exact W_main_arg4 m (dats m) c

end Cert.ReferenceIdeal.Own
end
-- ==== Proof.Algebraic.lean ====
/- The idealized kernel's result is the reference's, for metadata whose positions are in increasing order. -/
module

public import proofs.«01_k».proof.Defs
public import proofs.«01_k».proof.Proof.KernelIdealRun
public import proofs.«01_k».proof.Proof.DecodeArr
public import proofs.«01_k».proof.Proof.MatmulArr
public import proofs.«01_k».proof.Proof.RefRun
public import Idealize.ShloMosaic.Lib.Claim

@[expose] public section

set_option maxRecDepth 16384

noncomputable section

namespace Cert.Pre_ordered.Own

open Idealize.ShloMosaic

/-- The side conditions the precondition's function states. -/
instance facts : Cert.Pre_ordered.Facts where
  bcast_S6144x90_S6144x90x1_0_1 := by decide
  bcast_S_S8 := by decide
  bcast_S8_S1x1x8_2 := by decide
  bcast_S6144x90x1_S6144x90x8_0_1_2 := by decide
  bcast_S1x1x8_S6144x90x8_0_1_2 := by decide
  bcast_S_S6144x90x8 := by decide

end Cert.Pre_ordered.Own

namespace Cert.Proof

open Idealize.ShloMosaic Idealize.ShloMosaic.TcCoe Idealize.SL.Sem
open Cert.Slots

/-- The precondition says every group's positions are in increasing order. -/
theorem allOrdered (a0 : FVec Ideal Cert.Pre_ordered.S24x512x6144 .fp8e5m2) (a1 : FVec Ideal Cert.Pre_ordered.S24x512x48 .f32) (a2 : FVec Ideal Cert.Pre_ordered.S6144x1440 .fp8e4m3)
    (W : IVec Cert.Pre_ordered.S6144x90 32) (a4 : FVec Ideal Cert.Pre_ordered.S6144 .f32) (h : Cert.Pre_ordered.fn (F := Ideal) a0 a1 a2 W a4 = fun _ => 1#1) :
    Cert.KernelIdeal.Own.AllOrdered W := by
  intro o j s
  have e := congrFun h (ix3 o j s)
  pointwise [Cert.Pre_ordered.fn] at e
  have hs : 4 * (s : ℕ) < 32 := by omega
  rw [pos_one _ _ _ _ hs, pos_two _ _ _ _ hs] at e
  exact e

/-- The decoded weight is the reference's. -/
theorem weight_eq (x : FVec Ideal Cert.ReferenceIdeal.S6144x1440 .bf16) (W : IVec Cert.ReferenceIdeal.S6144x90 32) (S : FVec Ideal Cert.ReferenceIdeal.S6144 .f32)
    (S' : Vec Ideal Cert.KernelIdeal.S1x6144 .f32) (hS : ∀ o : Fin 6144, S' (ix2 0 o) = S (ix1 o)) (ho : Cert.KernelIdeal.Own.AllOrdered W) (o : Fin 6144) (i : Fin 2880) :
    Cert.KernelIdeal.Own.weights x W S' ⟨o / 128, by omega⟩ ⟨i / 2, by omega⟩ ⟨i % 2, by omega⟩ ⟨o % 128, by omega⟩
      = Cert.ReferenceIdeal.Own.refW x W S (ix2 o i) := by
  have eo : (⟨128 * (o / 128 : ℕ) + (o % 128 : ℕ), by omega⟩ : Fin 6144) = o := Fin.ext (by show 128 * (o.val / 128) + o.val % 128 = o.val; omega)
  have h := ho o ⟨i / 2 / 16, by omega⟩ ⟨i / 2 / 2 % 8, by omega⟩
  unfold Cert.KernelIdeal.Own.weights
  dsimp only
  rw [eo, hS, dense_scale _ _ _ _ _ _ _ h, Cert.ReferenceIdeal.Own.refW_at, Fin.sum_univ_two, Cert.ReferenceIdeal.Own.refPos_at, Cert.ReferenceIdeal.Own.refPos_at]
  rw [pos_one .host _ 2 (i / 4 % 8 * 2 + (0 : Fin 2)) (by show 2 * (i.val / 4 % 8 * 2 + 0) < 32; omega), pos_one .host _ 2 (i / 4 % 8 * 2 + (1 : Fin 2)) (by show 2 * (i.val / 4 % 8 * 2 + 1) < 32; omega)]
  refine congrArg (· * (show EReal from S (ix1 o))) ?_
  have e1 : (⟨i / 2 / 16, by omega⟩ : Fin 90) = ⟨i / 4 / 8, by omega⟩ := Fin.ext (by show i.val / 2 / 16 = i.val / 4 / 8; omega)
  have e2 : 4 * (i.val / 2 / 2 % 8) = 2 * (i / 4 % 8 * 2 + (0 : Fin 2)) := by show _ = 2 * (i.val / 4 % 8 * 2 + 0); omega
  have e3 : 2 * (i.val / 4 % 8 * 2 + (0 : Fin 2)) + 2 = 2 * (i / 4 % 8 * 2 + (1 : Fin 2)) := by show 2 * (i.val / 4 % 8 * 2 + 0) + 2 = 2 * (i.val / 4 % 8 * 2 + 1); omega
  have e4 : (⟨i / 2 / 2 * 2, by omega⟩ : Fin 1440) = ⟨i / 4 * 2 + (0 : Fin 2), by show i.val / 4 * 2 + 0 < 1440; omega⟩ := Fin.ext (by show i.val / 2 / 2 * 2 = i.val / 4 * 2 + 0; omega)
  have e5 : (⟨i / 2 / 2 * 2 + 1, by omega⟩ : Fin 1440) = ⟨i / 4 * 2 + (1 : Fin 2), by show i.val / 4 * 2 + 1 < 1440; omega⟩ := Fin.ext (by show i.val / 2 / 2 * 2 + 1 = i.val / 4 * 2 + 1; omega)
  have e6 : 2 * (i.val / 2 % 2) + i.val % 2 = i % 4 := by omega
  rw [e1, e2, e3, e4, e5, e6]
  rfl

/-- A vector read as a one-row matrix. -/
theorem row_at (S : Vec Ideal Cert.KernelIdeal.S6144 .f32) (h : Cert.KernelIdeal.S6144.ShapeCasts Cert.KernelIdeal.S1x6144) (o : Fin 6144) :
    (shapeCast Cert.KernelIdeal.S1x6144 S h : Vec Ideal Cert.KernelIdeal.S1x6144 .f32) (ix2 0 o) = S (ix1 o) := by
  pointwise

/-- The row scales as the decode pipeline reads them. -/
theorem scales_entry (m : (ℓ : Loc Cert.KernelIdeal.nD Cert.KernelIdeal.τ Cert.KernelIdeal.sig) → Buf (Elt Ideal) ℓ) (g : Dev Cert.KernelIdeal.nD → PrngReg) (c : Dev Cert.KernelIdeal.nD) (o : Fin 6144) :
    (Cert.KernelIdeal.Own.V1 m g c Cert.KernelIdeal.main_v0 : Vec Ideal Cert.KernelIdeal.S1x6144 .f32) (ix2 0 o)
      = (m ((c.tc : Thread Cert.KernelIdeal.nD Cert.KernelIdeal.τ).loc Cert.KernelIdeal.main_arg4) : Vec Ideal Cert.KernelIdeal.S6144 .f32) (ix1 o) := by
  have e : (Cert.KernelIdeal.Own.V1 m g c Cert.KernelIdeal.main_v0 : Vec Ideal Cert.KernelIdeal.S1x6144 .f32)
      = shapeCast Cert.KernelIdeal.S1x6144 (m ((c.tc : Thread Cert.KernelIdeal.nD Cert.KernelIdeal.τ).loc Cert.KernelIdeal.main_arg4) : Vec Ideal Cert.KernelIdeal.S6144 .f32) Cert.KernelIdeal.Gen.shapeCasts_S6144_S1x6144 := by
    show StableHlo.after Cert.KernelIdeal.Gen.hostOps0 _ (Proc.devRef .tc Cert.KernelIdeal.main_v0) = _
    after_results
    rfl
  rw [e]
  exact row_at _ _ o

open Cert.KernelIdeal Cert.KernelIdeal.Own in
/-- The kernel's result array is the reference's function of the arguments. -/
theorem result_eq (m : (ℓ : Loc nD τ sig) → Buf (Elt Ideal) ℓ) (g : Dev nD → PrngReg) (c : Dev nD)
    (ho : AllOrdered (m ((c.tc : Thread nD τ).loc main_arg3))) :
    (dat1 (V2 m g) c).arrAt 3 cfg1.N
      = Cert.ReferenceIdeal.Own.REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  have a0 : V2 m g c main_arg0 = m ((c.tc : Thread nD τ).loc main_arg0) := W2_args m g c main_arg0 (by decide)
  have a1 : V2 m g c main_arg1 = m ((c.tc : Thread nD τ).loc main_arg1) := W2_args m g c main_arg1 (by decide)
  have a2 : V1 m g c main_arg2 = m ((c.tc : Thread nD τ).loc main_arg2) := W1_args m g c main_arg2 (by decide)
  have a3 : V1 m g c main_arg3 = m ((c.tc : Thread nD τ).loc main_arg3) := W1_args m g c main_arg3 (by decide)
  have w : V2 m g c main_v1 = weightsAt (V1 m g c main_arg2) (V1 m g c main_arg3) (V1 m g c main_v0) :=
    (hF0 m g c 3).symm.trans (final0 (V1 m g) c (by rw [a3]; exact ho))
  rw [final1, a0, a1, w, a2, a3]
  funext z
  obtain ⟨b, s, i, rfl⟩ : ∃ (b : Fin 24) (s : Fin 512) (i : Fin 2880), z = (ix3 b s i : S24x512x2880.Idx) :=
    ⟨z 0, z 1, z 2, by funext d; match d with | ⟨0, _⟩ => rfl | ⟨1, _⟩ => rfl | ⟨2, _⟩ => rfl⟩
  refine Eq.trans ?_ (Cert.ReferenceIdeal.Own.REF_at _ _ _ _ _ b s i).symm
  show result _ _ _ b s i = _
  unfold result
  refine Finset.sum_congr rfl fun o _ => ?_
  rw [Cert.ReferenceIdeal.Own.refDy_at]
  refine (congrArg (· * _) (weight_eq _ _ _ _ (scales_entry m g c) ho o i)).trans (mul_comm _ _)

open Cert.KernelIdeal in
/-- Both programs run and end with equal results, for ordered metadata. -/
theorem algebraic : Cert.algebraic_KernelIdeal_ReferenceIdeal_pre_ordered := by
  pair_intro
  · run_from Cert.KernelIdeal.Own.run_value m g
  · run_from Cert.ReferenceIdeal.Own.run m' g'
    exact (result_eq m g c (allOrdered _ _ _ _ _ (hpre c))).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Claims
public import proofs.«01_k».proof.Proof.Algebraic
public import Idealize.ShloMosaic.Adequacy
public import Idealize.ShloMosaic.Init

@[expose] public section

namespace Cert.Proof

theorem claim : Cert.Claim :=
  ⟨Cert.Kernel.Gen.facts, Cert.KernelIdeal.Gen.facts, Cert.ReferenceIdeal.Gen.facts, Cert.Pre_ordered.Own.facts,
    frame_k, frame_ki, fun m ρ _ => frame_ki m ρ trivial, frame_ri, fun m ρ _ => frame_ri m ρ trivial, preserves, algebraic⟩

end Cert.Proof
